-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "scale2" .f32 0x3E0293EE#32 (((11863283 / 134217728) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x16x128 : Shape := ⟨4, ![8, 1, 16, 128]⟩
abbrev S8x1x2x128 : Shape := ⟨4, ![8, 1, 2, 128]⟩
abbrev S65536x2x128 : Shape := ⟨3, ![65536, 2, 128]⟩
abbrev S2x128 : Shape := ⟨2, ![2, 128]⟩
abbrev S65536x2 : Shape := ⟨2, ![65536, 2]⟩
abbrev S8x1024x2x128 : Shape := ⟨4, ![8, 1024, 2, 128]⟩
abbrev S8x1024x2 : Shape := ⟨3, ![8, 1024, 2]⟩
abbrev S8 : Shape := ⟨1, ![8]⟩
abbrev S8x2048 : Shape := ⟨2, ![8, 2048]⟩
abbrev S8x2x128 : Shape := ⟨3, ![8, 2, 128]⟩
abbrev S2x65536 : Shape := ⟨2, ![2, 65536]⟩
abbrev S8x2x1024x128 : Shape := ⟨4, ![8, 2, 1024, 128]⟩
abbrev S8x2x1024 : Shape := ⟨3, ![8, 2, 1024]⟩
abbrev S2x65536x128 : Shape := ⟨3, ![2, 65536, 128]⟩
abbrev S2x4096 : Shape := ⟨2, ![2, 4096]⟩
abbrev S2x4096x128 : Shape := ⟨3, ![2, 4096, 128]⟩
abbrev S128x128 : Shape := ⟨2, ![128, 128]⟩
abbrev S128x256 : Shape := ⟨2, ![128, 256]⟩
abbrev S1x128 : Shape := ⟨2, ![1, 128]⟩
abbrev S8x1x128 : Shape := ⟨3, ![8, 1, 128]⟩
abbrev S8x128 : Shape := ⟨2, ![8, 128]⟩
abbrev S8x1 : Shape := ⟨2, ![8, 1]⟩
abbrev S64x128 : Shape := ⟨2, ![64, 128]⟩
abbrev S64x256 : Shape := ⟨2, ![64, 256]⟩
abbrev S16x128 : Shape := ⟨2, ![16, 128]⟩
abbrev S8x256 : Shape := ⟨2, ![8, 256]⟩
abbrev S16x256 : Shape := ⟨2, ![16, 256]⟩
abbrev S1x1x1024x128 : Shape := ⟨4, ![1, 1, 1024, 128]⟩
abbrev S1024x128 : Shape := ⟨2, ![1024, 128]⟩
abbrev S1024x256 : Shape := ⟨2, ![1024, 256]⟩
abbrev S16x1024 : Shape := ⟨2, ![16, 1024]⟩
abbrev S8x1024 : Shape := ⟨2, ![8, 1024]⟩
abbrev S1 : Shape := ⟨1, ![1]⟩
abbrev S1x1x1024 : Shape := ⟨3, ![1, 1, 1024]⟩
abbrev S1x1024 : Shape := ⟨2, ![1, 1024]⟩
abbrev S16 : Shape := ⟨1, ![16]⟩
abbrev S16x1 : Shape := ⟨2, ![16, 1]⟩
abbrev S1x4096x128 : Shape := ⟨3, ![1, 4096, 128]⟩
abbrev S4096x128 : Shape := ⟨2, ![4096, 128]⟩
abbrev S4096x256 : Shape := ⟨2, ![4096, 256]⟩
abbrev S128x4096 : Shape := ⟨2, ![128, 4096]⟩
abbrev S128 : Shape := ⟨1, ![128]⟩
abbrev S128x1 : Shape := ⟨2, ![128, 1]⟩
abbrev S64x4096 : Shape := ⟨2, ![64, 4096]⟩
abbrev S1x4096 : Shape := ⟨2, ![1, 4096]⟩

abbrev nBuf : Space → Nat
  | .hbm => 23
  | .vmem => 20
  | .smem => 1
  | _ => 0

abbrev bufTy : (tb : Table) → Fin (tcTables nBuf tb) → BufTy
  | .hbm, ⟨0, _⟩ => ⟨S8x1x16x128, .bf16⟩
  | .hbm, ⟨1, _⟩ => ⟨S8x1x2x128, .bf16⟩
  | .hbm, ⟨2, _⟩ => ⟨S8x1x2x128, .bf16⟩
  | .hbm, ⟨3, _⟩ => ⟨S65536x2x128, .fp8e4m3⟩
  | .hbm, ⟨4, _⟩ => ⟨S2x128, .f32⟩
  | .hbm, ⟨5, _⟩ => ⟨S65536x2x128, .fp8e4m3⟩
  | .hbm, ⟨6, _⟩ => ⟨S65536x2, .f32⟩
  | .hbm, ⟨7, _⟩ => ⟨S8x1024x2x128, .fp8e4m3⟩
  | .hbm, ⟨8, _⟩ => ⟨S8x1024x2, .f32⟩
  | .hbm, ⟨9, _⟩ => ⟨S8x1024x2x128, .fp8e4m3⟩
  | .hbm, ⟨10, _⟩ => ⟨S8x1024x2, .f32⟩
  | .hbm, ⟨11, _⟩ => ⟨S8, .i32⟩
  | .hbm, ⟨12, _⟩ => ⟨S8x2048, .bf16⟩
  | .hbm, ⟨13, _⟩ => ⟨S8x2x128, .bf16⟩
  | .hbm, ⟨14, _⟩ => ⟨S8x2x128, .bf16⟩
  | .hbm, ⟨15, _⟩ => ⟨S2x65536, .f32⟩
  | .hbm, ⟨16, _⟩ => ⟨S8x2x1024x128, .fp8e4m3⟩
  | .hbm, ⟨17, _⟩ => ⟨S8x2x1024x128, .fp8e4m3⟩
  | .hbm, ⟨18, _⟩ => ⟨S8x2x1024, .f32⟩
  | .hbm, ⟨19, _⟩ => ⟨S8x2x1024, .f32⟩
  | .hbm, ⟨20, _⟩ => ⟨S2x65536x128, .fp8e4m3⟩
  | .hbm, ⟨21, _⟩ => ⟨S2x65536x128, .fp8e4m3⟩
  | .hbm, ⟨22, _⟩ => ⟨S8x2048, .bf16⟩
  | .local _ .vmem, ⟨0, _⟩ => ⟨S8x2048, .bf16⟩
  | .local _ .vmem, ⟨1, _⟩ => ⟨S8x2x128, .bf16⟩
  | .local _ .vmem, ⟨2, _⟩ => ⟨S8x2x128, .bf16⟩
  | .local _ .vmem, ⟨3, _⟩ => ⟨S2x128, .f32⟩
  | .local _ .vmem, ⟨4, _⟩ => ⟨S2x4096, .f32⟩
  | .local _ .vmem, ⟨5, _⟩ => ⟨S2x4096, .f32⟩
  | .local _ .vmem, ⟨6, _⟩ => ⟨S8x2x1024x128, .fp8e4m3⟩
  | .local _ .vmem, ⟨7, _⟩ => ⟨S8x2x1024x128, .fp8e4m3⟩
  | .local _ .vmem, ⟨8, _⟩ => ⟨S8x2x1024, .f32⟩
  | .local _ .vmem, ⟨9, _⟩ => ⟨S8x2x1024, .f32⟩
  | .local _ .vmem, ⟨10, _⟩ => ⟨S2x4096x128, .fp8e4m3⟩
  | .local _ .vmem, ⟨11, _⟩ => ⟨S2x4096x128, .fp8e4m3⟩
  | .local _ .vmem, ⟨12, _⟩ => ⟨S2x4096x128, .fp8e4m3⟩
  | .local _ .vmem, ⟨13, _⟩ => ⟨S2x4096x128, .fp8e4m3⟩
  | .local _ .vmem, ⟨14, _⟩ => ⟨S8x2048, .bf16⟩
  | .local _ .vmem, ⟨15, _⟩ => ⟨S128x128, .f32⟩
  | .local _ .vmem, ⟨16, _⟩ => ⟨S128x256, .bf16⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .smem, ⟨0, _⟩ => ⟨S8, .i32⟩
  | _, _ => ⟨S8x1x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v122 : BitVec 1 := Scalar.cmpi .eq arg0 c15_i32
  let v123 : BitVec 32 := Scalar.extui v122
  let c0_i32_32 : BitVec 32 := 0#32
  let v124 : BitVec 1 := Scalar.cmpi .ne v123 c0_i32_32
  v124

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2x1024x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2x1024x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x4096x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x4096x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "scale2" => some (((11863283 / 134217728) * (Real.log 2)⁻¹ : ℝ) : EReal)
  | _ => none
-- ==== ReferenceIdeal.lean ====
abbrev S8x1x16x128 : Shape := ⟨4, ![8, 1, 16, 128]⟩
abbrev S8x1x2x128 : Shape := ⟨4, ![8, 1, 2, 128]⟩
abbrev S65536x2x128 : Shape := ⟨3, ![65536, 2, 128]⟩
abbrev S2x128 : Shape := ⟨2, ![2, 128]⟩
abbrev S65536x2 : Shape := ⟨2, ![65536, 2]⟩
abbrev S8x1024x2x128 : Shape := ⟨4, ![8, 1024, 2, 128]⟩
abbrev S8x1024x2 : Shape := ⟨3, ![8, 1024, 2]⟩
abbrev S8 : Shape := ⟨1, ![8]⟩
abbrev S8x1x2x8x128 : Shape := ⟨5, ![8, 1, 2, 8, 128]⟩
abbrev S2x8x1x8x128 : Shape := ⟨5, ![2, 8, 1, 8, 128]⟩
abbrev S1x8x1x8x128 : Shape := ⟨5, ![1, 8, 1, 8, 128]⟩
abbrev S8x1x8x128 : Shape := ⟨4, ![8, 1, 8, 128]⟩
abbrev S1x128 : Shape := ⟨2, ![1, 128]⟩
abbrev S128 : Shape := ⟨1, ![128]⟩
abbrev S1x1x1x128 : Shape := ⟨4, ![1, 1, 1, 128]⟩
abbrev S64x128 : Shape := ⟨2, ![64, 128]⟩
abbrev S65536x1x128 : Shape := ⟨3, ![65536, 1, 128]⟩
abbrev S65536x128 : Shape := ⟨2, ![65536, 128]⟩
abbrev S64x65536 : Shape := ⟨2, ![64, 65536]⟩
abbrev S_ : Shape := ⟨0, ![]⟩
abbrev S8x1x8x65536 : Shape := ⟨4, ![8, 1, 8, 65536]⟩
abbrev S2x8x1x8x1024 : Shape := ⟨5, ![2, 8, 1, 8, 1024]⟩
abbrev S2x8x1024 : Shape := ⟨3, ![2, 8, 1024]⟩
abbrev S2x8x1x1x1024 : Shape := ⟨5, ![2, 8, 1, 1, 1024]⟩
abbrev S1024 : Shape := ⟨1, ![1024]⟩
abbrev S1x1024 : Shape := ⟨2, ![1, 1024]⟩
abbrev S8x1 : Shape := ⟨2, ![8, 1]⟩
abbrev S8x1024 : Shape := ⟨2, ![8, 1024]⟩
abbrev S1x8x1x1x1024 : Shape := ⟨5, ![1, 8, 1, 1, 1024]⟩
abbrev S2x8x1x8x1 : Shape := ⟨5, ![2, 8, 1, 8, 1]⟩
abbrev S1 : Shape := ⟨1, ![1]⟩
abbrev S1x1 : Shape := ⟨2, ![1, 1]⟩
abbrev S1x1x1x1x1 : Shape := ⟨5, ![1, 1, 1, 1, 1]⟩
abbrev S2x8x1x8 : Shape := ⟨4, ![2, 8, 1, 8]⟩
abbrev S2x65536 : Shape := ⟨2, ![2, 65536]⟩
abbrev S8x1x8 : Shape := ⟨3, ![8, 1, 8]⟩
abbrev S8x1x8x1 : Shape := ⟨4, ![8, 1, 8, 1]⟩
abbrev S1x8x1x8x1 : Shape := ⟨5, ![1, 8, 1, 8, 1]⟩
abbrev S1x8x1x8x1024 : Shape := ⟨5, ![1, 8, 1, 8, 1024]⟩
abbrev S8x1x8x1024 : Shape := ⟨4, ![8, 1, 8, 1024]⟩
abbrev S1x65536 : Shape := ⟨2, ![1, 65536]⟩
abbrev S65536 : Shape := ⟨1, ![65536]⟩
abbrev S1x1x1x65536 : Shape := ⟨4, ![1, 1, 1, 65536]⟩
abbrev S8x2048 : Shape := ⟨2, ![8, 2048]⟩

abbrev nBuf : Space → Nat
  | .hbm => 219
  | .vmem => 8
  | .smem => 0
  | _ => 0

abbrev hbmTy0_0 (i : Nat) : BufTy := match i % 128 with
  | 0 => ⟨S8x1x16x128, .bf16⟩
  | 1 => ⟨S8x1x2x128, .bf16⟩
  | 2 => ⟨S8x1x2x128, .bf16⟩
  | 3 => ⟨S65536x2x128, .fp8e4m3⟩
  | 4 => ⟨S2x128, .f32⟩
  | 5 => ⟨S65536x2x128, .fp8e4m3⟩
  | 6 => ⟨S65536x2, .f32⟩
  | 7 => ⟨S8x1024x2x128, .fp8e4m3⟩
  | 8 => ⟨S8x1024x2, .f32⟩
  | 9 => ⟨S8x1024x2x128, .fp8e4m3⟩
  | 10 => ⟨S8x1024x2, .f32⟩
  | 11 => ⟨S8, .i32⟩
  | 12 => ⟨S65536x2x128, .bf16⟩
  | 13 => ⟨S65536x2x128, .bf16⟩
  | 14 => ⟨S8x1024x2x128, .bf16⟩
  | 15 => ⟨S8x1024x2x128, .bf16⟩
  | 16 => ⟨S8x1x2x8x128, .bf16⟩
  | 17 => ⟨S2x8x1x8x128, .bf16⟩
  | 18 => ⟨S2x128, .bf16⟩
  | 19 => ⟨S1x8x1x8x128, .bf16⟩
  | 20 => ⟨S8x1x8x128, .bf16⟩
  | 21 => ⟨S1x128, .bf16⟩
  | 22 => ⟨S128, .bf16⟩
  | 23 => ⟨S1x1x1x128, .bf16⟩
  | 24 => ⟨S8x1x8x128, .bf16⟩
  | 25 => ⟨S8x1x8x128, .bf16⟩
  | 26 => ⟨S64x128, .bf16⟩
  | 27 => ⟨S65536x1x128, .bf16⟩
  | 28 => ⟨S65536x128, .bf16⟩
  | 29 => ⟨S64x65536, .f32⟩
  | 30 => ⟨S_, .f32⟩
  | 31 => ⟨S64x65536, .f32⟩
  | 32 => ⟨S64x65536, .f32⟩
  | 33 => ⟨S8x1x8x65536, .f32⟩
  | 34 => ⟨S1x8x1x8x128, .bf16⟩
  | 35 => ⟨S8x1x8x128, .bf16⟩
  | 36 => ⟨S1x128, .bf16⟩
  | 37 => ⟨S128, .bf16⟩
  | 38 => ⟨S1x1x1x128, .bf16⟩
  | 39 => ⟨S8x1x8x128, .bf16⟩
  | 40 => ⟨S8x1x8x128, .bf16⟩
  | 41 => ⟨S64x128, .bf16⟩
  | 42 => ⟨S65536x1x128, .bf16⟩
  | 43 => ⟨S65536x128, .bf16⟩
  | 44 => ⟨S64x65536, .f32⟩
  | 45 => ⟨S_, .f32⟩
  | 46 => ⟨S64x65536, .f32⟩
  | 47 => ⟨S64x65536, .f32⟩
  | 48 => ⟨S8x1x8x65536, .f32⟩
  | 49 => ⟨S2x8x1x8x1024, .f32⟩
  | 50 => ⟨S2x8x1024, .f32⟩
  | 51 => ⟨S2x8x1x1x1024, .f32⟩
  | 52 => ⟨S2x8x1x8x1024, .f32⟩
  | 53 => ⟨S2x8x1x8x1024, .f32⟩
  | 54 => ⟨S_, .f32⟩
  | 55 => ⟨S2x8x1x8x1024, .f32⟩
  | 56 => ⟨S2x8x1x8x1024, .f32⟩
  | 57 => ⟨S1024, .i32⟩
  | 58 => ⟨S1x1024, .i32⟩
  | 59 => ⟨S8x1, .i32⟩
  | 60 => ⟨S8x1024, .i32⟩
  | 61 => ⟨S8x1024, .i32⟩
  | 62 => ⟨S8x1024, .i1⟩
  | 63 => ⟨S1x8x1x1x1024, .i1⟩
  | 64 => ⟨S_, .f32⟩
  | 65 => ⟨S_, .f32⟩
  | 66 => ⟨S2x8x1x8x1024, .i1⟩
  | 67 => ⟨S2x8x1x8x1024, .f32⟩
  | 68 => ⟨S2x8x1x8x1024, .f32⟩
  | 69 => ⟨S2x8x1x8x1, .f32⟩
  | 70 => ⟨S_, .f32⟩
  | 71 => ⟨S2x8x1x8x1, .f32⟩
  | 72 => ⟨S2x8x1x8x1, .f32⟩
  | 73 => ⟨S1, .i32⟩
  | 74 => ⟨S1x1, .i32⟩
  | 75 => ⟨S1, .i32⟩
  | 76 => ⟨S1x1, .i32⟩
  | 77 => ⟨S1x1, .i1⟩
  | 78 => ⟨S1x1x1x1x1, .i1⟩
  | 79 => ⟨S_, .f32⟩
  | 80 => ⟨S_, .f32⟩
  | 81 => ⟨S2x8x1x8x1, .i1⟩
  | 82 => ⟨S2x8x1x8x1, .f32⟩
  | 83 => ⟨S2x8x1x8x1, .f32⟩
  | 84 => ⟨S_, .f32⟩
  | 85 => ⟨S2x8x1x8, .f32⟩
  | 86 => ⟨S2x8x1x8x1, .f32⟩
  | 87 => ⟨S_, .f32⟩
  | 88 => ⟨S2x8x1x8, .f32⟩
  | 89 => ⟨S2x8x1x8x1, .f32⟩
  | 90 => ⟨S2x8x1x8x1, .f32⟩
  | 91 => ⟨S2x65536, .f32⟩
  | 92 => ⟨S_, .f32⟩
  | 93 => ⟨S8x1x8, .f32⟩
  | 94 => ⟨S8x1x8x1, .f32⟩
  | 95 => ⟨S1x8x1x8x1, .f32⟩
  | 96 => ⟨S8x1x8x1, .f32⟩
  | 97 => ⟨S8x1x8x1, .f32⟩
  | 98 => ⟨S8x1x8x65536, .f32⟩
  | 99 => ⟨S8x1x8x65536, .f32⟩
  | 100 => ⟨S8x1x8x65536, .f32⟩
  | 101 => ⟨S1x8x1x8x1024, .f32⟩
  | 102 => ⟨S8x1x8x1024, .f32⟩
  | 103 => ⟨S8x1x8x1024, .f32⟩
  | 104 => ⟨S8x1x8x1024, .f32⟩
  | 105 => ⟨S8x1x8x1024, .f32⟩
  | 106 => ⟨S1x8x1x8x1, .f32⟩
  | 107 => ⟨S8x1x8x1, .f32⟩
  | 108 => ⟨S8x1x8x1, .f32⟩
  | 109 => ⟨S8x1x8x1, .f32⟩
  | 110 => ⟨S_, .f32⟩
  | 111 => ⟨S8x1x8, .f32⟩
  | 112 => ⟨S8x1x8x1, .f32⟩
  | 113 => ⟨S_, .f32⟩
  | 114 => ⟨S8x1x8, .f32⟩
  | 115 => ⟨S8x1x8x1, .f32⟩
  | 116 => ⟨S8x1x8x1, .f32⟩
  | 117 => ⟨S_, .f32⟩
  | 118 => ⟨S8x1x8, .f32⟩
  | 119 => ⟨S8x1x8x1, .f32⟩
  | 120 => ⟨S8x1x8x1, .f32⟩
  | 121 => ⟨S_, .f32⟩
  | 122 => ⟨S8x1x8x1, .f32⟩
  | 123 => ⟨S8x1x8x1, .i1⟩
  | 124 => ⟨S_, .f32⟩
  | 125 => ⟨S_, .f32⟩
  | 126 => ⟨S8x1x8x1, .f32⟩
  | 127 => ⟨S8x1x8x1, .f32⟩
  | _ => ⟨S8x1x16x128, .bf16⟩

abbrev hbmTy0_1 (i : Nat) : BufTy := match i % 128 with
  | 0 => ⟨S8x1x8x65536, .f32⟩
  | 1 => ⟨S8x1x8x65536, .f32⟩
  | 2 => ⟨S1x65536, .f32⟩
  | 3 => ⟨S65536, .f32⟩
  | 4 => ⟨S1x1x1x65536, .f32⟩
  | 5 => ⟨S8x1x8x65536, .f32⟩
  | 6 => ⟨S8x1x8x65536, .f32⟩
  | 7 => ⟨S8x1x8x65536, .bf16⟩
  | 8 => ⟨S64x65536, .bf16⟩
  | 9 => ⟨S65536x1x128, .bf16⟩
  | 10 => ⟨S65536x128, .bf16⟩
  | 11 => ⟨S64x128, .f32⟩
  | 12 => ⟨S8x1x8x128, .f32⟩
  | 13 => ⟨S8x1x8x1024, .f32⟩
  | 14 => ⟨S8x1x8x1024, .f32⟩
  | 15 => ⟨S8x1x8x1, .f32⟩
  | 16 => ⟨S8x1x8x1, .bf16⟩
  | 17 => ⟨S_, .f32⟩
  | 18 => ⟨S8x1x8, .f32⟩
  | 19 => ⟨S8x1x8x1, .f32⟩
  | 20 => ⟨S1x8x1x8x1, .f32⟩
  | 21 => ⟨S8x1x8x1, .f32⟩
  | 22 => ⟨S8x1x8x1, .f32⟩
  | 23 => ⟨S8x1x8x65536, .f32⟩
  | 24 => ⟨S8x1x8x65536, .f32⟩
  | 25 => ⟨S8x1x8x65536, .f32⟩
  | 26 => ⟨S1x8x1x8x1024, .f32⟩
  | 27 => ⟨S8x1x8x1024, .f32⟩
  | 28 => ⟨S8x1x8x1024, .f32⟩
  | 29 => ⟨S8x1x8x1024, .f32⟩
  | 30 => ⟨S8x1x8x1024, .f32⟩
  | 31 => ⟨S1x8x1x8x1, .f32⟩
  | 32 => ⟨S8x1x8x1, .f32⟩
  | 33 => ⟨S8x1x8x1, .f32⟩
  | 34 => ⟨S8x1x8x1, .f32⟩
  | 35 => ⟨S_, .f32⟩
  | 36 => ⟨S8x1x8, .f32⟩
  | 37 => ⟨S8x1x8x1, .f32⟩
  | 38 => ⟨S_, .f32⟩
  | 39 => ⟨S8x1x8, .f32⟩
  | 40 => ⟨S8x1x8x1, .f32⟩
  | 41 => ⟨S8x1x8x1, .f32⟩
  | 42 => ⟨S_, .f32⟩
  | 43 => ⟨S8x1x8, .f32⟩
  | 44 => ⟨S8x1x8x1, .f32⟩
  | 45 => ⟨S8x1x8x1, .f32⟩
  | 46 => ⟨S_, .f32⟩
  | 47 => ⟨S8x1x8x1, .f32⟩
  | 48 => ⟨S8x1x8x1, .i1⟩
  | 49 => ⟨S_, .f32⟩
  | 50 => ⟨S_, .f32⟩
  | 51 => ⟨S8x1x8x1, .f32⟩
  | 52 => ⟨S8x1x8x1, .f32⟩
  | 53 => ⟨S8x1x8x65536, .f32⟩
  | 54 => ⟨S8x1x8x65536, .f32⟩
  | 55 => ⟨S1x65536, .f32⟩
  | 56 => ⟨S65536, .f32⟩
  | 57 => ⟨S1x1x1x65536, .f32⟩
  | 58 => ⟨S8x1x8x65536, .f32⟩
  | 59 => ⟨S8x1x8x65536, .f32⟩
  | 60 => ⟨S8x1x8x65536, .bf16⟩
  | 61 => ⟨S64x65536, .bf16⟩
  | 62 => ⟨S65536x1x128, .bf16⟩
  | 63 => ⟨S65536x128, .bf16⟩
  | 64 => ⟨S64x128, .f32⟩
  | 65 => ⟨S8x1x8x128, .f32⟩
  | 66 => ⟨S8x1x8x1024, .f32⟩
  | 67 => ⟨S8x1x8x1024, .f32⟩
  | 68 => ⟨S8x1x8x1, .f32⟩
  | 69 => ⟨S8x1x8x1, .bf16⟩
  | 70 => ⟨S1x8x1x8x128, .f32⟩
  | 71 => ⟨S1x8x1x8x128, .f32⟩
  | 72 => ⟨S2x8x1x8x128, .f32⟩
  | 73 => ⟨S1x8x1x8x1024, .f32⟩
  | 74 => ⟨S1x8x1x8x1024, .f32⟩
  | 75 => ⟨S2x8x1x8x1024, .f32⟩
  | 76 => ⟨S1x8x1x8x1, .bf16⟩
  | 77 => ⟨S1x8x1x8x1, .bf16⟩
  | 78 => ⟨S2x8x1x8x1, .bf16⟩
  | 79 => ⟨S2x8x1024, .f32⟩
  | 80 => ⟨S2x8x1x1x1024, .f32⟩
  | 81 => ⟨S2x8x1x8x1024, .f32⟩
  | 82 => ⟨S2x8x1x8x1024, .f32⟩
  | 83 => ⟨S2x8x1x8x1024, .bf16⟩
  | 84 => ⟨S2x8x1x8x128, .f32⟩
  | 85 => ⟨S2x8x1x8x128, .f32⟩
  | 86 => ⟨S2x8x1x8x128, .f32⟩
  | 87 => ⟨S2x8x1x8x128, .f32⟩
  | 88 => ⟨S8x1x2x8x128, .f32⟩
  | 89 => ⟨S8x2048, .f32⟩
  | 90 => ⟨S8x2048, .bf16⟩
  | _ => ⟨S8x1x16x128, .bf16⟩

abbrev hbmTy (i : Nat) : BufTy := match i / 128 with
  | 0 => hbmTy0_0 i
  | 1 => hbmTy0_1 i
  | _ => ⟨S8x1x16x128, .bf16⟩

abbrev bufTy : (tb : Table) → Fin (tcTables nBuf tb) → BufTy
  | .hbm, ⟨i, _⟩ => hbmTy i
  | .local _ .vmem, ⟨0, _⟩ => ⟨S65536x2x128, .fp8e4m3⟩
  | .local _ .vmem, ⟨1, _⟩ => ⟨S65536x2x128, .fp8e4m3⟩
  | .local _ .vmem, ⟨2, _⟩ => ⟨S8x1024x2x128, .fp8e4m3⟩
  | .local _ .vmem, ⟨3, _⟩ => ⟨S8x1024x2x128, .fp8e4m3⟩
  | .local _ .vmem, ⟨4, _⟩ => ⟨S65536x2x128, .bf16⟩
  | .local _ .vmem, ⟨5, _⟩ => ⟨S65536x2x128, .bf16⟩
  | .local _ .vmem, ⟨6, _⟩ => ⟨S8x1024x2x128, .bf16⟩
  | .local _ .vmem, ⟨7, _⟩ => ⟨S8x1024x2x128, .bf16⟩
  | _, _ => ⟨S8x1x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_1 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_2 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_v46 : Ref sig .tc := ⟨.hbm, 68, rfl⟩
abbrev main_v47 : Ref sig .tc := ⟨.hbm, 69, rfl⟩
abbrev main_cst_3 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_4 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v56 : Ref sig .tc := ⟨.hbm, 83, rfl⟩
abbrev main_cst_5 : Ref sig .tc := ⟨.hbm, 84, rfl⟩
abbrev main_v57 : Ref sig .tc := ⟨.hbm, 85, rfl⟩
abbrev main_v58 : Ref sig .tc := ⟨.hbm, 86, rfl⟩
abbrev main_cst_6 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_7 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_8 : Ref sig .tc := ⟨.hbm, 110, rfl⟩
abbrev main_v80 : Ref sig .tc := ⟨.hbm, 111, rfl⟩
abbrev main_v81 : Ref sig .tc := ⟨.hbm, 112, rfl⟩
abbrev main_cst_9 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_10 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_11 : Ref sig .tc := ⟨.hbm, 121, rfl⟩
abbrev main_v88 : Ref sig .tc := ⟨.hbm, 122, rfl⟩
abbrev main_v89 : Ref sig .tc := ⟨.hbm, 123, rfl⟩
abbrev main_cst_12 : Ref sig .tc := ⟨.hbm, 124, rfl⟩
abbrev main_call2_v0 : Ref sig .tc := ⟨.hbm, 125, rfl⟩
abbrev main_call2_v1 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_13 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_14 : Ref sig .tc := ⟨.hbm, 163, rfl⟩
abbrev main_v125 : Ref sig .tc := ⟨.hbm, 164, rfl⟩
abbrev main_v126 : Ref sig .tc := ⟨.hbm, 165, rfl⟩
abbrev main_cst_15 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_16 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_17 : Ref sig .tc := ⟨.hbm, 174, rfl⟩
abbrev main_v133 : Ref sig .tc := ⟨.hbm, 175, rfl⟩
abbrev main_v134 : Ref sig .tc := ⟨.hbm, 176, rfl⟩
abbrev main_cst_18 : Ref sig .tc := ⟨.hbm, 177, rfl⟩
abbrev main_call3_v0 : Ref sig .tc := ⟨.hbm, 178, rfl⟩
abbrev main_call3_v1 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S65536x2x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S65536x2x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x2x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x2x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S65536x2x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S65536x2x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024x2x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024x2x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Bits.Runs.lean ====
/- What the runs of the kernel body share: its branch conditions, where its output window is idle, and the staging and
   scratch memrefs its points are run on. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- At the points of case A the printed configuration (`Cfg.idle`) calls output 12 idle: the case stores nothing into it. -/
theorem idleAt0_12_A : ∀ t : Fin cfg0.N, cond0_0 (grid0.coords t) → ¬cond0_1 (grid0.coords t) → cfg0.idle 12 (grid0.coords t) = true := by decide +kernel
/-- At the points of case A the pipeline does not write output 12's block back. -/
theorem noFlush0_12_A : ∀ t : Fin cfg0.N, cond0_0 (grid0.coords t) → ¬cond0_1 (grid0.coords t) → (cfg0.win 12).flush t = false := by decide +kernel
/-- At the points of case B the printed configuration (`Cfg.idle`) calls output 12 idle: the case stores nothing into it. -/
theorem idleAt0_12_B : ∀ t : Fin cfg0.N, ¬cond0_0 (grid0.coords t) → ¬cond0_1 (grid0.coords t) → cfg0.idle 12 (grid0.coords t) = true := by decide +kernel
/-- At the points of case B the pipeline does not write output 12's block back. -/
theorem noFlush0_12_B : ∀ t : Fin cfg0.N, ¬cond0_0 (grid0.coords t) → ¬cond0_1 (grid0.coords t) → (cfg0.win 12).flush t = false := by decide +kernel
/-- At the points of case C the printed configuration (`Cfg.idle`) calls output 12 live: the case stores into it. -/
theorem liveAt0_12_C : ∀ t : Fin cfg0.N, ¬cond0_0 (grid0.coords t) → cond0_1 (grid0.coords t) → cfg0.idle 12 (grid0.coords t) = false := by decide +kernel

/-! ## The kernel body on any staging memrefs: a subtype the run finds -/

/-- One staging buffer of output window 12, through which its contents are stated (`View.read_writes_of_cover`: the
    choice does not matter). -/
abbrev VO0_12 : View sig .tc .vmem S8x2048 .bf16 := (Memref.whole cc0_stg12_0 : Memref sig .tc .vmem S8x2048 .bf16).view
/-- Each window's current staging memref at point `t`, spelled as the pipeline passes it (`bodyAt0`), and its wholeness. -/
abbrev ms0_0 (t : Fin cfg0.N) : Memref sig .tc .smem S8 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x2x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x2x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x2x1024x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x2x1024x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x2x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x2x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x4096x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x4096x128 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x2048 .bf16 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S128x128 .f32 := Memref.whole cc0_scratch0
abbrev scM0_1 : Memref sig .tc .vmem S128x256 .bf16 := Memref.whole cc0_scratch1
abbrev scM0_2 : Memref sig .tc .vmem S128x128 .f32 := Memref.whole cc0_scratch2
abbrev scM0_3 : Memref sig .tc .vmem S128x128 .f32 := Memref.whole cc0_scratch3
abbrev scM0_4 : Memref sig .tc .vmem S128x128 .f32 := Memref.whole cc0_scratch4
/-- The scratch `arg15` the kernel carries between points, as a view: what it holds is stated through it. -/
abbrev VS0_1 : View sig .tc .vmem S128x256 .bf16 := scM0_1.view
/-- The scratch `arg16` the kernel carries between points, as a view: what it holds is stated through it. -/
abbrev VS0_2 : View sig .tc .vmem S128x128 .f32 := scM0_2.view
/-- The scratch `arg17` the kernel carries between points, as a view: what it holds is stated through it. -/
abbrev VS0_3 : View sig .tc .vmem S128x128 .f32 := scM0_3.view
/-- The scratch `arg18` the kernel carries between points, as a view: what it holds is stated through it. -/
abbrev VS0_4 : View sig .tc .vmem S128x128 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.Bits.RunA.lean ====
/- The run of the kernel body at the first point. -/
module

public import proofs.«01_k».proof.Proof.Bits.Runs

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2124000 in
/-- What the body's stores leave in each output's staging memref, as pieces (last first) IN CASE A (`scf.if` 0 taken, `scf.if` 1 not taken: points 0), WITH the
    proof that on whole staging memrefs — the inputs' at their contents, the outputs it leaves idle (12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) :
    Σ' (L12 : List (View.Piece (Elt F) S8x2048 .bf16)), Σ' (LS1 : List (View.Piece (Elt F) S128x256 .bf16)), Σ' (LS2 : List (View.Piece (Elt F) S128x128 .f32)), Σ' (LS3 : List (View.Piece (Elt F) S128x128 .f32)), Σ' (LS4 : List (View.Piece (Elt F) S128x128 .f32)), { LT0 : List (View.Piece (Elt F) S128x128 .f32) //
      ∀ (xi12 : Vec F S8x2048 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ f, arg14.view.loc (c : Thread nD τ) ↦[arg14.view.set]{fullShare} arg14.view.writes (Elt F) f LT0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4)) -∗ K ⟨⟩))
          ⊢ wp frame (wpE (defs₀ (F := F)) Variants.none c none) E (cc0_cascade_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, ?_, ?_, ?_, ?_, fun xi12 E K => ?run⟩
  case run =>
    simp only [cc0_cascade_decode_eq_skeleton]; unfold cc0_cascade_decode_skel
    simp only [k0_part37_eq_skeleton, k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.Bits.RunB.lean ====
/- The run of the kernel body at a middle point. -/
module

public import proofs.«01_k».proof.Proof.Bits.RunA

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken, `scf.if` 1 not taken: points 1, 2, … 14: 14 of 16), WITH the
    proof that on whole staging memrefs — the inputs' at their contents, the outputs it leaves idle (12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) :
    Σ' (L12 : List (View.Piece (Elt F) S8x2048 .bf16)), Σ' (LS1 : List (View.Piece (Elt F) S128x256 .bf16)), Σ' (LS2 : List (View.Piece (Elt F) S128x128 .f32)), Σ' (LS3 : List (View.Piece (Elt F) S128x128 .f32)), Σ' (LS4 : List (View.Piece (Elt F) S128x128 .f32)), { LT0 : List (View.Piece (Elt F) S128x128 .f32) //
      ∀ (xi12 : Vec F S8x2048 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ d, owns (c : Thread nD τ) arg14 fullShare d) ∗ owns (c : Thread nD τ) arg15 fullShare xs1 ∗ owns (c : Thread nD τ) arg16 fullShare xs2 ∗ owns (c : Thread nD τ) arg17 fullShare xs3 ∗ owns (c : Thread nD τ) arg18 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ d, owns (c : Thread nD τ) arg14 fullShare d) ∗ owns (c : Thread nD τ) arg15 fullShare xs1 ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4)) -∗ K ⟨⟩))
          ⊢ wp frame (wpE (defs₀ (F := F)) Variants.none c none) E (cc0_cascade_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], ?_, ?_, ?_, [], fun xi12 E K => ?run⟩
  case run =>
    simp only [cc0_cascade_decode_eq_skeleton]; unfold cc0_cascade_decode_skel
    simp only [k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg15.eq_unread hfs1; obtain rfl := harg16.eq_unread hfs2; obtain rfl := harg17.eq_unread hfs3; obtain rfl := harg18.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]
    · iexists _, _; isplitr; swap; · iexact HS0
      ipureintro; rfl
    isplitl [HS1]
    · iexists _; isplitr; · ipureintro; exact harg15.read_unread _
      iexact HS1
    isplitl [HS2]; · iexists _; iexact HS2
    isplitl [HS3]; · iexists _; iexact HS3
    iexists _; iexact HS4

end Cert.Kernel.Hand

end
-- ==== Proof.Bits.RunC.lean ====
/- The run of the kernel body at the last point. -/
module

public import proofs.«01_k».proof.Proof.Bits.RunB

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE C (`scf.if` 0 not taken, `scf.if` 1 taken: points 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) :
    Σ' (L12 : List (View.Piece (Elt F) S8x2048 .bf16)), Σ' (LS1 : List (View.Piece (Elt F) S128x256 .bf16)), Σ' (LS2 : List (View.Piece (Elt F) S128x128 .f32)), Σ' (LS3 : List (View.Piece (Elt F) S128x128 .f32)), Σ' (LS4 : List (View.Piece (Elt F) S128x128 .f32)), { LT0 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ owns (c : Thread nD τ) arg15 fullShare xs1 ∗ owns (c : Thread nD τ) arg16 fullShare xs2 ∗ owns (c : Thread nD τ) arg17 fullShare xs3 ∗ owns (c : Thread nD τ) arg18 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ d, owns (c : Thread nD τ) arg14 fullShare d) ∗ owns (c : Thread nD τ) arg15 fullShare xs1 ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4)) -∗ K ⟨⟩))
          ⊢ wp frame (wpE (defs₀ (F := F)) Variants.none c none) E (cc0_cascade_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], ?_, ?_, ?_, [], fun E K => ?run⟩
  case run =>
    simp only [cc0_cascade_decode_eq_skeleton]; unfold cc0_cascade_decode_skel
    simp only [k0_part37_eq_skeleton, k0_part38_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg15.eq_unread hfs1; obtain rfl := harg16.eq_unread hfs2; obtain rfl := harg17.eq_unread hfs3; obtain rfl := harg18.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [HS0]
    · iexists _, _; isplitr; swap; · iexact HS0
      ipureintro; rfl
    isplitl [HS1]
    · iexists _; isplitr; · ipureintro; exact harg15.read_unread _
      iexact HS1
    isplitl [HS2]; · iexists _; iexact HS2
    isplitl [HS3]; · iexists _; iexact HS3
    iexists _; iexact HS4

end Cert.Kernel.Hand

end
-- ==== Proof.Bits.Frame.lean ====
/- The frame certificate of the kernel: the contents of its scratch and of its output window after each point, the body
   obligation at each, and the launch. -/
module

public import proofs.«01_k».proof.Proof.Bits.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 12 (the window is idle at its points and not written back there):
    no pieces — a placeholder (junk read back) that nothing consults, since at these points the window is neither
    written back nor read at the next point (Lib/Pipeline.lean "Idle points"). -/
def out0_A_12 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) : Vec F S8x2048 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).1)

/-- Case A's pieces for scratch `arg15`, which the kernel carries between points, cover it: 2 pieces of `S64x256` tiling it (Lib/Ring.lean `Piece.tiledL`). -/
theorem scover0_A_1 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (y : S128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.1 S64x256.size (by sl_kernel_rfl) y

/-- What case A leaves in scratch `arg15`: its pieces read back over junk. -/
def sout0_A_1 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) : Vec F S128x256 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.1)

/-- Case A's pieces for scratch `arg16`, which the kernel carries between points, cover it: one of them a store of the WHOLE buffer (Lib/Ring.lean `sl_whole_mem`). -/
theorem scover0_A_2 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.1 (by sl_whole_mem) y

/-- What case A leaves in scratch `arg16`: its pieces read back over junk. -/
def sout0_A_2 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) : Vec F S128x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.1)

/-- Case A's pieces for scratch `arg17`, which the kernel carries between points, cover it: one of them a store of the WHOLE buffer (Lib/Ring.lean `sl_whole_mem`). -/
theorem scover0_A_3 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.2.1 (by sl_whole_mem) y

/-- What case A leaves in scratch `arg17`: its pieces read back over junk. -/
def sout0_A_3 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) : Vec F S128x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.2.1)

/-- Case A's pieces for scratch `arg18`, which the kernel carries between points, cover it: one of them a store of the WHOLE buffer (Lib/Ring.lean `sl_whole_mem`). -/
theorem scover0_A_4 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.2.2.1 (by sl_whole_mem) y

/-- What case A leaves in scratch `arg18`: its pieces read back over junk. -/
def sout0_A_4 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) : Vec F S128x128 .f32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.2.2.1)

/-- Case B stores nothing into output 12 (the window is idle at its points and not written back there):
    no pieces — a placeholder (junk read back) that nothing consults, since at these points the window is neither
    written back nor read at the next point (Lib/Pipeline.lean "Idle points"). -/
def out0_B_12 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S8x2048 .bf16 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).1)

/-- Case B stores nothing into scratch `arg15`: it holds what the point before left. -/
def sout0_B_1 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S128x256 .bf16 := xs1

/-- Case B's pieces for scratch `arg16`, which the kernel carries between points, cover it: 1 piece of `S128x128` tiling it (Lib/Ring.lean `Piece.tiledL`). -/
theorem scover0_B_2 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.1 S128x128.size (by sl_kernel_rfl) y

/-- What case B leaves in scratch `arg16`: its pieces read back over junk. -/
def sout0_B_2 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S128x128 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.1)

/-- Case B's pieces for scratch `arg17`, which the kernel carries between points, cover it: 1 piece of `S128x128` tiling it (Lib/Ring.lean `Piece.tiledL`). -/
theorem scover0_B_3 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.1 S128x128.size (by sl_kernel_rfl) y

/-- What case B leaves in scratch `arg17`: its pieces read back over junk. -/
def sout0_B_3 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S128x128 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.1)

/-- Case B's pieces for scratch `arg18`, which the kernel carries between points, cover it: 1 piece of `S128x128` tiling it (Lib/Ring.lean `Piece.tiledL`). -/
theorem scover0_B_4 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.2.1 S128x128.size (by sl_kernel_rfl) y

/-- What case B leaves in scratch `arg18`: its pieces read back over junk. -/
def sout0_B_4 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S128x128 .f32 :=
  VS0_4.read (Elt F) (VS0_4.writes (Elt F) VS0_4.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.2.1)

/-- Case C's pieces for output 12 tile its block (16 stores of `S8x128`, checked by the kernel's evaluation: Lib/Ring.lean `Piece.tiledL`, linear in the pieces, through a loop's `@[irreducible]` trip theorem too), so they cover it. -/
theorem cover0_C_12 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) (y : S8x2048.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).1 S8x128.size (by sl_kernel_rfl) y

/-- What case C leaves in output 12's staging buffer: its pieces read back over junk. -/
def out0_C_12 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S8x2048 .bf16 :=
  VO0_12.read (Elt F) (VO0_12.writes (Elt F) VO0_12.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).1)

/-- Case C stores nothing into scratch `arg15`: it holds what the point before left. -/
def sout0_C_1 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S128x256 .bf16 := xs1

/-- Case C's pieces for scratch `arg16`, which the kernel carries between points, cover it: 1 piece of `S128x128` tiling it (Lib/Ring.lean `Piece.tiledL`). -/
theorem scover0_C_2 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) (y : S128x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.1 S128x128.size (by sl_kernel_rfl) y

/-- What case C leaves in scratch `arg16`: its pieces read back over junk. -/
def sout0_C_2 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S128x128 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.1)

/-- Case C's pieces for scratch `arg17`, which the kernel carries between points, cover it: 1 piece of `S128x128` tiling it (Lib/Ring.lean `Piece.tiledL`). -/
theorem scover0_C_3 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) (y : S128x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.1 S128x128.size (by sl_kernel_rfl) y

/-- What case C leaves in scratch `arg17`: its pieces read back over junk. -/
def sout0_C_3 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S128x128 .f32 :=
  VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.1)

/-- Case C's pieces for scratch `arg18`, which the kernel carries between points, cover it: 1 piece of `S128x128` tiling it (Lib/Ring.lean `Piece.tiledL`). -/
theorem scover0_C_4 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) (y : S128x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.2.1 S128x128.size (by sl_kernel_rfl) y

/-- What case C leaves in scratch `arg18`: its pieces read back over junk. -/
def sout0_C_4 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S128x128 .f32 :=
  VS0_4.read (Elt F) (VS0_4.writes (Elt F) VS0_4.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x2048 .bf16 × Vec F S128x256 .bf16 × Vec F S128x128 .f32 × Vec F S128x128 .f32 × Vec F S128x128 .f32
  | 0, hn => (out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩))
  | n + 1, hn =>
    if h0 : (n + 1) % 16 = 0 then
      if h1 : (n + 1) % 16 = 15 then
        False.elim (by have hN : n + 1 < 16 := lt_of_lt_of_eq hn (show cfg0.N = 16 from N_0); omega)
      else
        (out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩))
    else
      if h1 : (n + 1) % 16 = 15 then
        (out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
      else
        (out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 16 = 0) (h1 : ¬t.val % 16 = 15) :
    outsAt0 m c t.val t.isLt = (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.1) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.1) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.1) ∗ owns (c : Thread nD τ) scM0_2 fullShare ((outsAt0 m c (n - 1) (by omega)).2.2.1) ∗ owns (c : Thread nD τ) scM0_3 fullShare ((outsAt0 m c (n - 1) (by omega)).2.2.2.1) ∗ owns (c : Thread nD τ) scM0_4 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [Dat.leavesExact_idle (dats m 0 c) 12 t (idleAt0_12_A t ((hcond0_0 t).mpr h0) (fun h => h1 ((hcond0_1 t).mp h))) (noFlush0_12_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_1 sout0_A_2 sout0_A_3 sout0_A_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, ⟨%fT0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexists _; iexact H12
      · exfalso; have hN : t.val < 16 := lt_of_lt_of_eq t.isLt (show cfg0.N = 16 from N_0); omega
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12_C t (fun h => h0 ((hcond0_0 t).mp h)) ((hcond0_1 t).mpr h1)], after0_12]
      by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]
        unfold out0_C_12 sout0_C_1 sout0_C_2 sout0_C_3 sout0_C_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_C c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, ⟨%e12, H12⟩, HS0, HS1, ⟨%es2, HS2⟩, ⟨%es3, HS3⟩, ⟨%es4, HS4⟩⟩
        isplitl [HS0 HS1 HS2 HS3 HS4 Hg]
        · isplitl [HS0 HS1 HS2 HS3 HS4]
          · isplitl [HS0]
            · iexact HS0
            isplitl [HS1]
            · iexact HS1
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_C_4 c _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        unfold owns; iexists _; isplitr
        swap; · iexact H12
        ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [Dat.leavesExact_idle (dats m 0 c) 12 t (idleAt0_12_B t (fun h => h0 ((hcond0_0 t).mp h)) (fun h => h1 ((hcond0_1 t).mp h))) (noFlush0_12_B t (fun h => h0 ((hcond0_0 t).mp h)) (fun h => h1 ((hcond0_1 t).mp h)))]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        unfold sout0_B_1 sout0_B_2 sout0_B_3 sout0_B_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_B c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, HS0, HS1, ⟨%es2, HS2⟩, ⟨%es3, HS3⟩, ⟨%es4, HS4⟩⟩
        isplitl [HS0 HS1 HS2 HS3 HS4 Hg]
        · isplitl [HS0 HS1 HS2 HS3 HS4]
          · isplitl [HS0]
            · iexact HS0
            isplitl [HS1]
            · iexact HS1
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexists _; iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexact HS0
    isplitl [HS1]
    · iexists _; iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel.Hand

end
-- ==== Proof.Ideal.Runs.lean ====
/- What the runs of the kernel body share: its branch conditions, where its output window is idle, and the staging and
   scratch memrefs its points are run on. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- At the points of case A the printed configuration (`Cfg.idle`) calls output 12 idle: the case stores nothing into it. -/
theorem idleAt0_12_A : ∀ t : Fin cfg0.N, cond0_0 (grid0.coords t) → ¬cond0_1 (grid0.coords t) → cfg0.idle 12 (grid0.coords t) = true := by decide +kernel
/-- At the points of case A the pipeline does not write output 12's block back. -/
theorem noFlush0_12_A : ∀ t : Fin cfg0.N, cond0_0 (grid0.coords t) → ¬cond0_1 (grid0.coords t) → (cfg0.win 12).flush t = false := by decide +kernel
/-- At the points of case B the printed configuration (`Cfg.idle`) calls output 12 idle: the case stores nothing into it. -/
theorem idleAt0_12_B : ∀ t : Fin cfg0.N, ¬cond0_0 (grid0.coords t) → ¬cond0_1 (grid0.coords t) → cfg0.idle 12 (grid0.coords t) = true := by decide +kernel
/-- At the points of case B the pipeline does not write output 12's block back. -/
theorem noFlush0_12_B : ∀ t : Fin cfg0.N, ¬cond0_0 (grid0.coords t) → ¬cond0_1 (grid0.coords t) → (cfg0.win 12).flush t = false := by decide +kernel
/-- At the points of case C the printed configuration (`Cfg.idle`) calls output 12 live: the case stores into it. -/
theorem liveAt0_12_C : ∀ t : Fin cfg0.N, ¬cond0_0 (grid0.coords t) → cond0_1 (grid0.coords t) → cfg0.idle 12 (grid0.coords t) = false := by decide +kernel

/-! ## The kernel body on any staging memrefs: a subtype the run finds -/

/-- One staging buffer of output window 12, through which its contents are stated (`View.read_writes_of_cover`: the
    choice does not matter). -/
abbrev VO0_12 : View sig .tc .vmem S8x2048 .bf16 := (Memref.whole cc0_stg12_0 : Memref sig .tc .vmem S8x2048 .bf16).view
/-- Each window's current staging memref at point `t`, spelled as the pipeline passes it (`bodyAt0`), and its wholeness. -/
abbrev ms0_0 (t : Fin cfg0.N) : Memref sig .tc .smem S8 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x2x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x2x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x2x1024x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x2x1024x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x2x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x2x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x4096x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x4096x128 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x2048 .bf16 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S128x128 .f32 := Memref.whole cc0_scratch0
abbrev scM0_1 : Memref sig .tc .vmem S128x256 .bf16 := Memref.whole cc0_scratch1
abbrev scM0_2 : Memref sig .tc .vmem S128x128 .f32 := Memref.whole cc0_scratch2
abbrev scM0_3 : Memref sig .tc .vmem S128x128 .f32 := Memref.whole cc0_scratch3
abbrev scM0_4 : Memref sig .tc .vmem S128x128 .f32 := Memref.whole cc0_scratch4
/-- The scratch `arg15` the kernel carries between points, as a view: what it holds is stated through it. -/
abbrev VS0_1 : View sig .tc .vmem S128x256 .bf16 := scM0_1.view
/-- The scratch `arg16` the kernel carries between points, as a view: what it holds is stated through it. -/
abbrev VS0_2 : View sig .tc .vmem S128x128 .f32 := scM0_2.view
/-- The scratch `arg17` the kernel carries between points, as a view: what it holds is stated through it. -/
abbrev VS0_3 : View sig .tc .vmem S128x128 .f32 := scM0_3.view
/-- The scratch `arg18` the kernel carries between points, as a view: what it holds is stated through it. -/
abbrev VS0_4 : View sig .tc .vmem S128x128 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.Ideal.RunA.lean ====
/- The run of the kernel body at the first point. -/
module

public import proofs.«01_k».proof.Proof.Ideal.Runs

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2124000 in
/-- What the body's stores leave in each output's staging memref, as pieces (last first) IN CASE A (`scf.if` 0 taken, `scf.if` 1 not taken: points 0), WITH the
    proof that on whole staging memrefs — the inputs' at their contents, the outputs it leaves idle (12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) :
    Σ' (L12 : List (View.Piece (Elt F) S8x2048 .bf16)), Σ' (LS1 : List (View.Piece (Elt F) S128x256 .bf16)), Σ' (LS2 : List (View.Piece (Elt F) S128x128 .f32)), Σ' (LS3 : List (View.Piece (Elt F) S128x128 .f32)), Σ' (LS4 : List (View.Piece (Elt F) S128x128 .f32)), { LT0 : List (View.Piece (Elt F) S128x128 .f32) //
      ∀ (xi12 : Vec F S8x2048 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ f, arg14.view.loc (c : Thread nD τ) ↦[arg14.view.set]{fullShare} arg14.view.writes (Elt F) f LT0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4)) -∗ K ⟨⟩))
          ⊢ wp frame (wpE (defs₀ (F := F)) Variants.none c none) E (cc0_cascade_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, ?_, ?_, ?_, ?_, fun xi12 E K => ?run⟩
  case run =>
    simp only [cc0_cascade_decode_eq_skeleton]; unfold cc0_cascade_decode_skel
    simp only [k0_part37_eq_skeleton, k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.Ideal.RunB.lean ====
/- The run of the kernel body at a middle point. -/
module

public import proofs.«01_k».proof.Proof.Ideal.RunA

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken, `scf.if` 1 not taken: points 1, 2, … 14: 14 of 16), WITH the
    proof that on whole staging memrefs — the inputs' at their contents, the outputs it leaves idle (12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) :
    Σ' (L12 : List (View.Piece (Elt F) S8x2048 .bf16)), Σ' (LS1 : List (View.Piece (Elt F) S128x256 .bf16)), Σ' (LS2 : List (View.Piece (Elt F) S128x128 .f32)), Σ' (LS3 : List (View.Piece (Elt F) S128x128 .f32)), Σ' (LS4 : List (View.Piece (Elt F) S128x128 .f32)), { LT0 : List (View.Piece (Elt F) S128x128 .f32) //
      ∀ (xi12 : Vec F S8x2048 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ d, owns (c : Thread nD τ) arg14 fullShare d) ∗ owns (c : Thread nD τ) arg15 fullShare xs1 ∗ owns (c : Thread nD τ) arg16 fullShare xs2 ∗ owns (c : Thread nD τ) arg17 fullShare xs3 ∗ owns (c : Thread nD τ) arg18 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ d, owns (c : Thread nD τ) arg14 fullShare d) ∗ owns (c : Thread nD τ) arg15 fullShare xs1 ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4)) -∗ K ⟨⟩))
          ⊢ wp frame (wpE (defs₀ (F := F)) Variants.none c none) E (cc0_cascade_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], ?_, ?_, ?_, [], fun xi12 E K => ?run⟩
  case run =>
    simp only [cc0_cascade_decode_eq_skeleton]; unfold cc0_cascade_decode_skel
    simp only [k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg15.eq_unread hfs1; obtain rfl := harg16.eq_unread hfs2; obtain rfl := harg17.eq_unread hfs3; obtain rfl := harg18.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]
    · iexists _, _; isplitr; swap; · iexact HS0
      ipureintro; rfl
    isplitl [HS1]
    · iexists _; isplitr; · ipureintro; exact harg15.read_unread _
      iexact HS1
    isplitl [HS2]; · iexists _; iexact HS2
    isplitl [HS3]; · iexists _; iexact HS3
    iexists _; iexact HS4

end Cert.KernelIdeal.Hand

end
-- ==== Proof.Ideal.RunC.lean ====
/- The run of the kernel body at the last point. -/
module

public import proofs.«01_k».proof.Proof.Ideal.RunB

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE C (`scf.if` 0 not taken, `scf.if` 1 taken: points 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) :
    Σ' (L12 : List (View.Piece (Elt F) S8x2048 .bf16)), Σ' (LS1 : List (View.Piece (Elt F) S128x256 .bf16)), Σ' (LS2 : List (View.Piece (Elt F) S128x128 .f32)), Σ' (LS3 : List (View.Piece (Elt F) S128x128 .f32)), Σ' (LS4 : List (View.Piece (Elt F) S128x128 .f32)), { LT0 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ owns (c : Thread nD τ) arg15 fullShare xs1 ∗ owns (c : Thread nD τ) arg16 fullShare xs2 ∗ owns (c : Thread nD τ) arg17 fullShare xs3 ∗ owns (c : Thread nD τ) arg18 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ d, owns (c : Thread nD τ) arg14 fullShare d) ∗ owns (c : Thread nD τ) arg15 fullShare xs1 ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4)) -∗ K ⟨⟩))
          ⊢ wp frame (wpE (defs₀ (F := F)) Variants.none c none) E (cc0_cascade_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], ?_, ?_, ?_, [], fun E K => ?run⟩
  case run =>
    simp only [cc0_cascade_decode_eq_skeleton]; unfold cc0_cascade_decode_skel
    simp only [k0_part37_eq_skeleton, k0_part38_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg15.eq_unread hfs1; obtain rfl := harg16.eq_unread hfs2; obtain rfl := harg17.eq_unread hfs3; obtain rfl := harg18.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [HS0]
    · iexists _, _; isplitr; swap; · iexact HS0
      ipureintro; rfl
    isplitl [HS1]
    · iexists _; isplitr; · ipureintro; exact harg15.read_unread _
      iexact HS1
    isplitl [HS2]; · iexists _; iexact HS2
    isplitl [HS3]; · iexists _; iexact HS3
    iexists _; iexact HS4

end Cert.KernelIdeal.Hand

end
-- ==== Proof.Ideal.Frame.lean ====
/- The frame certificate of the kernel: the contents of its scratch and of its output window after each point, the body
   obligation at each, and the launch. -/
module

public import proofs.«01_k».proof.Proof.Ideal.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A stores nothing into output 12 (the window is idle at its points and not written back there):
    no pieces — a placeholder (junk read back) that nothing consults, since at these points the window is neither
    written back nor read at the next point (Lib/Pipeline.lean "Idle points"). -/
def out0_A_12 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) : Vec F S8x2048 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).1)

/-- Case A's pieces for scratch `arg15`, which the kernel carries between points, cover it: 2 pieces of `S64x256` tiling it (Lib/Ring.lean `Piece.tiledL`). -/
theorem scover0_A_1 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (y : S128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.1 S64x256.size (by sl_kernel_rfl) y

/-- What case A leaves in scratch `arg15`: its pieces read back over junk. -/
def sout0_A_1 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) : Vec F S128x256 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.1)

/-- Case A's pieces for scratch `arg16`, which the kernel carries between points, cover it: one of them a store of the WHOLE buffer (Lib/Ring.lean `sl_whole_mem`). -/
theorem scover0_A_2 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.1 (by sl_whole_mem) y

/-- What case A leaves in scratch `arg16`: its pieces read back over junk. -/
def sout0_A_2 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) : Vec F S128x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.1)

/-- Case A's pieces for scratch `arg17`, which the kernel carries between points, cover it: one of them a store of the WHOLE buffer (Lib/Ring.lean `sl_whole_mem`). -/
theorem scover0_A_3 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.2.1 (by sl_whole_mem) y

/-- What case A leaves in scratch `arg17`: its pieces read back over junk. -/
def sout0_A_3 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) : Vec F S128x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.2.1)

/-- Case A's pieces for scratch `arg18`, which the kernel carries between points, cover it: one of them a store of the WHOLE buffer (Lib/Ring.lean `sl_whole_mem`). -/
theorem scover0_A_4 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.2.2.1 (by sl_whole_mem) y

/-- What case A leaves in scratch `arg18`: its pieces read back over junk. -/
def sout0_A_4 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) : Vec F S128x128 .f32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.2.2.1)

/-- Case B stores nothing into output 12 (the window is idle at its points and not written back there):
    no pieces — a placeholder (junk read back) that nothing consults, since at these points the window is neither
    written back nor read at the next point (Lib/Pipeline.lean "Idle points"). -/
def out0_B_12 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S8x2048 .bf16 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).1)

/-- Case B stores nothing into scratch `arg15`: it holds what the point before left. -/
def sout0_B_1 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S128x256 .bf16 := xs1

/-- Case B's pieces for scratch `arg16`, which the kernel carries between points, cover it: 1 piece of `S128x128` tiling it (Lib/Ring.lean `Piece.tiledL`). -/
theorem scover0_B_2 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.1 S128x128.size (by sl_kernel_rfl) y

/-- What case B leaves in scratch `arg16`: its pieces read back over junk. -/
def sout0_B_2 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S128x128 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.1)

/-- Case B's pieces for scratch `arg17`, which the kernel carries between points, cover it: 1 piece of `S128x128` tiling it (Lib/Ring.lean `Piece.tiledL`). -/
theorem scover0_B_3 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.1 S128x128.size (by sl_kernel_rfl) y

/-- What case B leaves in scratch `arg17`: its pieces read back over junk. -/
def sout0_B_3 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S128x128 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.1)

/-- Case B's pieces for scratch `arg18`, which the kernel carries between points, cover it: 1 piece of `S128x128` tiling it (Lib/Ring.lean `Piece.tiledL`). -/
theorem scover0_B_4 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.2.1 S128x128.size (by sl_kernel_rfl) y

/-- What case B leaves in scratch `arg18`: its pieces read back over junk. -/
def sout0_B_4 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : ¬cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S128x128 .f32 :=
  VS0_4.read (Elt F) (VS0_4.writes (Elt F) VS0_4.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.2.1)

/-- Case C's pieces for output 12 tile its block (16 stores of `S8x128`, checked by the kernel's evaluation: Lib/Ring.lean `Piece.tiledL`, linear in the pieces, through a loop's `@[irreducible]` trip theorem too), so they cover it. -/
theorem cover0_C_12 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) (y : S8x2048.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).1 S8x128.size (by sl_kernel_rfl) y

/-- What case C leaves in output 12's staging buffer: its pieces read back over junk. -/
def out0_C_12 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S8x2048 .bf16 :=
  VO0_12.read (Elt F) (VO0_12.writes (Elt F) VO0_12.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).1)

/-- Case C stores nothing into scratch `arg15`: it holds what the point before left. -/
def sout0_C_1 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S128x256 .bf16 := xs1

/-- Case C's pieces for scratch `arg16`, which the kernel carries between points, cover it: 1 piece of `S128x128` tiling it (Lib/Ring.lean `Piece.tiledL`). -/
theorem scover0_C_2 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) (y : S128x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.1 S128x128.size (by sl_kernel_rfl) y

/-- What case C leaves in scratch `arg16`: its pieces read back over junk. -/
def sout0_C_2 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S128x128 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.1)

/-- Case C's pieces for scratch `arg17`, which the kernel carries between points, cover it: 1 piece of `S128x128` tiling it (Lib/Ring.lean `Piece.tiledL`). -/
theorem scover0_C_3 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) (y : S128x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.1 S128x128.size (by sl_kernel_rfl) y

/-- What case C leaves in scratch `arg17`: its pieces read back over junk. -/
def sout0_C_3 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S128x128 .f32 :=
  VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.1)

/-- Case C's pieces for scratch `arg18`, which the kernel carries between points, cover it: 1 piece of `S128x128` tiling it (Lib/Ring.lean `Piece.tiledL`). -/
theorem scover0_C_4 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) (y : S128x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.2.1 S128x128.size (by sl_kernel_rfl) y

/-- What case C leaves in scratch `arg18`: its pieces read back over junk. -/
def sout0_C_4 (c : Dev nD) (i : grid0.Coords) (arg1 : Memref sig .tc .smem S8 .i32) (harg1 : arg1.IsWhole) (arg2 : Memref sig .tc .vmem S8x2048 .bf16) (harg2 : arg2.IsWhole) (arg3 : Memref sig .tc .vmem S8x2x128 .bf16) (harg3 : arg3.IsWhole) (arg4 : Memref sig .tc .vmem S8x2x128 .bf16) (harg4 : arg4.IsWhole) (arg5 : Memref sig .tc .vmem S2x128 .f32) (harg5 : arg5.IsWhole) (arg6 : Memref sig .tc .vmem S2x4096 .f32) (harg6 : arg6.IsWhole) (arg7 : Memref sig .tc .vmem S8x2x1024x128 .fp8e4m3) (harg7 : arg7.IsWhole) (arg8 : Memref sig .tc .vmem S8x2x1024x128 .fp8e4m3) (harg8 : arg8.IsWhole) (arg9 : Memref sig .tc .vmem S8x2x1024 .f32) (harg9 : arg9.IsWhole) (arg10 : Memref sig .tc .vmem S8x2x1024 .f32) (harg10 : arg10.IsWhole) (arg11 : Memref sig .tc .vmem S2x4096x128 .fp8e4m3) (harg11 : arg11.IsWhole) (arg12 : Memref sig .tc .vmem S2x4096x128 .fp8e4m3) (harg12 : arg12.IsWhole) (arg13 : Memref sig .tc .vmem S8x2048 .bf16) (harg13 : arg13.IsWhole) (arg14 : Memref sig .tc .vmem S128x128 .f32) (harg14 : arg14.IsWhole) (arg15 : Memref sig .tc .vmem S128x256 .bf16) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i) (hc1 : cond0_1 i)
    (x0 : Vec F S8 .i32) (x1 : Vec F S8x2048 .bf16) (x2 : Vec F S8x2x128 .bf16) (x3 : Vec F S8x2x128 .bf16) (x4 : Vec F S2x128 .f32) (x5 : Vec F S2x4096 .f32) (x6 : Vec F S8x2x1024x128 .fp8e4m3) (x7 : Vec F S8x2x1024x128 .fp8e4m3) (x8 : Vec F S8x2x1024 .f32) (x9 : Vec F S8x2x1024 .f32) (x10 : Vec F S2x4096x128 .fp8e4m3) (x11 : Vec F S2x4096x128 .fp8e4m3) (xs1 : Vec F S128x256 .bf16) (xs2 : Vec F S128x128 .f32) (xs3 : Vec F S128x128 .f32) (xs4 : Vec F S128x128 .f32) : Vec F S128x128 .f32 :=
  VS0_4.read (Elt F) (VS0_4.writes (Elt F) VS0_4.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs1 xs2 xs3 xs4).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x2048 .bf16 × Vec F S128x256 .bf16 × Vec F S128x128 .f32 × Vec F S128x128 .f32 × Vec F S128x128 .f32
  | 0, hn => (out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩))
  | n + 1, hn =>
    if h0 : (n + 1) % 16 = 0 then
      if h1 : (n + 1) % 16 = 15 then
        False.elim (by have hN : n + 1 < 16 := lt_of_lt_of_eq hn (show cfg0.N = 16 from N_0); omega)
      else
        (out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩))
    else
      if h1 : (n + 1) % 16 = 15 then
        (out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
      else
        (out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 16 = 0) (h1 : ¬t.val % 16 = 15) :
    outsAt0 m c t.val t.isLt = (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.1) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.1) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.1) ∗ owns (c : Thread nD τ) scM0_2 fullShare ((outsAt0 m c (n - 1) (by omega)).2.2.1) ∗ owns (c : Thread nD τ) scM0_3 fullShare ((outsAt0 m c (n - 1) (by omega)).2.2.2.1) ∗ owns (c : Thread nD τ) scM0_4 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [Dat.leavesExact_idle (dats m 0 c) 12 t (idleAt0_12_A t ((hcond0_0 t).mpr h0) (fun h => h1 ((hcond0_1 t).mp h))) (noFlush0_12_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_1 sout0_A_2 sout0_A_3 sout0_A_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, ⟨%fT0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexists _; iexact H12
      · exfalso; have hN : t.val < 16 := lt_of_lt_of_eq t.isLt (show cfg0.N = 16 from N_0); omega
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12_C t (fun h => h0 ((hcond0_0 t).mp h)) ((hcond0_1 t).mpr h1)], after0_12]
      by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]
        unfold out0_C_12 sout0_C_1 sout0_C_2 sout0_C_3 sout0_C_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_C c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, ⟨%e12, H12⟩, HS0, HS1, ⟨%es2, HS2⟩, ⟨%es3, HS3⟩, ⟨%es4, HS4⟩⟩
        isplitl [HS0 HS1 HS2 HS3 HS4 Hg]
        · isplitl [HS0 HS1 HS2 HS3 HS4]
          · isplitl [HS0]
            · iexact HS0
            isplitl [HS1]
            · iexact HS1
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_C_4 c _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        unfold owns; iexists _; isplitr
        swap; · iexact H12
        ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [Dat.leavesExact_idle (dats m 0 c) 12 t (idleAt0_12_B t (fun h => h0 ((hcond0_0 t).mp h)) (fun h => h1 ((hcond0_1 t).mp h))) (noFlush0_12_B t (fun h => h0 ((hcond0_0 t).mp h)) (fun h => h1 ((hcond0_1 t).mp h)))]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        unfold sout0_B_1 sout0_B_2 sout0_B_3 sout0_B_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_B c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, HS0, HS1, ⟨%es2, HS2⟩, ⟨%es3, HS3⟩, ⟨%es4, HS4⟩⟩
        isplitl [HS0 HS1 HS2 HS3 HS4 Hg]
        · isplitl [HS0 HS1 HS2 HS3 HS4]
          · isplitl [HS0]
            · iexact HS0
            isplitl [HS1]
            · iexact HS1
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexists _; iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexact HS0
    isplitl [HS1]
    · iexists _; iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Hand

end
-- ==== Proof.Value.Max.lean ====
/- The maximum along the last axis, as a supremum, on extended reals. -/
module

public import Idealize.ShloMosaic.Lib.Pipeline.ValueKit
public import Idealize.ShloMosaic.Lib.Pointwise
public import Idealize.ShloMosaic.Lib.ValueIdx
public import Idealize.ShloMosaic.Lib.IdealHost

@[expose] public section

noncomputable section

namespace Cert.Maxima

open Idealize.ShloMosaic Idealize.ShloMosaic.TcCoe

/-- A fold of `max` from `-∞` is the supremum. -/
theorem fold_eq_sup {ι : Type*} (s : Finset ι) (f : ι → EReal) : s.fold max ⊥ f = s.sup f := rfl

/-- The word of `-∞` in 32-bit floats denotes the bottom. -/
theorem negInf : Ideal.ofBits .f32 0xFF800000#32 = ⊥ := by
  simp [Ideal.ofBits, Ideal.ieee]

/-- A host maximum along the last of four axes, from `-∞`, is a supremum. -/
theorem host4 {a b c n : ℕ} (x : FVec Ideal ⟨4, ![a, b, c, n]⟩ .f32) (init : FVec Ideal ⟨0, ![]⟩ .f32)
    (h : (⟨4, ![a, b, c, n]⟩ : Shape).ReducesTo [3] ⟨3, ![a, b, c]⟩) (hu : 0 < (⟨0, ![]⟩ : Shape).numel)
    (i : Fin a) (j : Fin b) (k : Fin c) (hi : init (Shape.Idx.first hu) = (⊥ : EReal))
    (f : Fin n → EReal) (hf : ∀ p, x (ix4 i j k p) = f p) :
    Host.reduce FloatOps.maximumf x init h hu (ix3 i j k) = Finset.univ.sup f := by
  have e : Host.reduce FloatOps.maximumf x init h hu (ix3 i j k)
      = Finset.univ.fold max (init (Shape.Idx.first hu)) fun p : Fin n => x (ix4 i j k p) := by
    simp only [pointwise]
  rw [e, hi, fold_eq_sup]; exact congrArg _ (funext hf)

/-- A host maximum along the last of five axes, from `-∞`, is a supremum. -/
theorem host5 {z a b c n : ℕ} (x : FVec Ideal ⟨5, ![z, a, b, c, n]⟩ .f32) (init : FVec Ideal ⟨0, ![]⟩ .f32)
    (h : (⟨5, ![z, a, b, c, n]⟩ : Shape).ReducesTo [4] ⟨4, ![z, a, b, c]⟩) (hu : 0 < (⟨0, ![]⟩ : Shape).numel)
    (l : Fin z) (i : Fin a) (j : Fin b) (k : Fin c) (hi : init (Shape.Idx.first hu) = (⊥ : EReal))
    (f : Fin n → EReal) (hf : ∀ p, x (ix5 l i j k p) = f p) :
    Host.reduce FloatOps.maximumf x init h hu (ix4 l i j k) = Finset.univ.sup f := by
  have e : Host.reduce FloatOps.maximumf x init h hu (ix4 l i j k)
      = Finset.univ.fold max (init (Shape.Idx.first hu)) fun p : Fin n => x (ix5 l i j k p) := by
    simp only [pointwise]
  rw [e, hi, fold_eq_sup]; exact congrArg _ (funext hf)

end Cert.Maxima

end
-- ==== Proof.Value.Spec.lean ====
/- The attention of one decode step, in coordinates, over the twelve argument arrays on extended reals. -/
module

public import proofs.«01_k».proof.Proof.Value.Max

@[expose] public section

noncomputable section

namespace Cert.Spec

open Idealize.ShloMosaic Idealize.ShloMosaic.TcCoe

/-- The twelve argument arrays, the tail lengths as words and every other array on extended reals. -/
structure Args where
  x : (⟨4, ![8, 1, 16, 128]⟩ : Shape).Idx → EReal
  kn : (⟨4, ![8, 1, 2, 128]⟩ : Shape).Idx → EReal
  vn : (⟨4, ![8, 1, 2, 128]⟩ : Shape).Idx → EReal
  pk : (⟨3, ![65536, 2, 128]⟩ : Shape).Idx → EReal
  ks : (⟨2, ![2, 128]⟩ : Shape).Idx → EReal
  pv : (⟨3, ![65536, 2, 128]⟩ : Shape).Idx → EReal
  vs : (⟨2, ![65536, 2]⟩ : Shape).Idx → EReal
  tk : (⟨4, ![8, 1024, 2, 128]⟩ : Shape).Idx → EReal
  ts : (⟨3, ![8, 1024, 2]⟩ : Shape).Idx → EReal
  tv : (⟨4, ![8, 1024, 2, 128]⟩ : Shape).Idx → EReal
  us : (⟨3, ![8, 1024, 2]⟩ : Shape).Idx → EReal
  len : (⟨1, ![8]⟩ : Shape).Idx → BitVec 32

/-- The query head of group member `g` of key-value head `n`. -/
def hd (n : Fin 2) (g : Fin 8) : Fin 16 := ⟨n.val * 8 + g.val, by omega⟩

/-- The softmax scale, as the 32-bit word that both programs round it to. -/
def SM : EReal := Ideal.ofBits .f32 0x3DB504F3#32

/-- Whether position `t` of sequence `b`'s tail holds a key. -/
def live (A : Args) (b : Fin 8) (t : Fin 1024) : BitVec 1 :=
  IntOp.cmpi .slt (BitVec.ofNat 32 t.val) (A.len (ix1 b))

/-- The score of a prefix position. -/
def rP (A : Args) (n : Fin 2) (b g : Fin 8) (p : Fin 65536) : EReal :=
  (∑ d : Fin 128, A.x (ix4 b 0 (hd n g) d) * A.ks (ix2 n d) * A.pk (ix3 p n d)) * SM

/-- The score of a tail position. -/
def rT (A : Args) (n : Fin 2) (b g : Fin 8) (t : Fin 1024) : EReal :=
  Scalar.select (live A b t)
    ((∑ d : Fin 128, A.x (ix4 b 0 (hd n g) d) * A.tk (ix4 b t n d)) * A.ts (ix3 b t n) * SM) ⊥

/-- The score of the new position. -/
def rN (A : Args) (n : Fin 2) (b g : Fin 8) : EReal :=
  (∑ d : Fin 128, A.x (ix4 b 0 (hd n g) d) * A.kn (ix4 b 0 n d)) * SM

/-- The greatest score. -/
def top (A : Args) (n : Fin 2) (b g : Fin 8) : EReal :=
  Finset.univ.sup (rP A n b g) ⊔ (Finset.univ.sup (rT A n b g) ⊔ rN A n b g)

/-- The sum of the weights. -/
def den (A : Args) (n : Fin 2) (b g : Fin 8) : EReal :=
  ∑ p, Ideal.exp (rP A n b g p - top A n b g) + ∑ t, Ideal.exp (rT A n b g t - top A n b g)
    + Ideal.exp (rN A n b g - top A n b g)

/-- The sum of the weights where it is positive, else one. -/
def gden (A : Args) (n : Fin 2) (b g : Fin 8) : EReal :=
  if 0 < den A n b g then den A n b g else 1

/-- The attention's result. -/
def out (A : Args) (n : Fin 2) (b g : Fin 8) (d : Fin 128) : EReal :=
  (∑ p, Ideal.div (Ideal.exp (rP A n b g p - top A n b g)) (gden A n b g) * A.vs (ix2 p n) * A.pv (ix3 p n d)
    + ∑ t, Ideal.div (Ideal.exp (rT A n b g t - top A n b g)) (gden A n b g) * A.us (ix3 b t n) * A.tv (ix4 b t n d))
    + Ideal.div (Ideal.exp (rN A n b g - top A n b g)) (gden A n b g) * A.vn (ix4 b 0 n d)

end Cert.Spec

end
-- ==== Proof.Value.Math.lean ====
/- The running softmax on extended reals: its state after any number of blocks, and the normalised result. No program
   is mentioned here. -/
module

public import Idealize.ShloMosaic.PureOps.Ideal

@[expose] public section

noncomputable section

namespace Cert.Softmax

open Idealize.ShloMosaic

/-- The exponential to the base 2. -/
local notation "𝔢" => Ideal.exp2

/-- The exponential to the base 2 of a real. -/
theorem exp2_real (r : ℝ) : 𝔢 (r : EReal) = ((Real.rpow 2 r : ℝ) : EReal) := rfl

/-- A score's weight under a maximum that is not below it is a real between 0 and 1. -/
theorem weight_real {x y : EReal} (h : x ≤ y) : ∃ r : ℝ, 0 ≤ r ∧ r ≤ 1 ∧ 𝔢 (x - y) = (r : EReal) := by
  induction y with
  | bot => exact ⟨0, le_rfl, zero_le_one, by rw [le_bot_iff.mp h]; rfl⟩
  | top => exact ⟨0, le_rfl, zero_le_one, by rw [EReal.sub_top]; rfl⟩
  | coe y =>
    induction x with
    | bot => exact ⟨0, le_rfl, zero_le_one, by rw [EReal.bot_sub]; rfl⟩
    | top => exact absurd h (by simp)
    | coe x =>
      refine ⟨Real.rpow 2 (x - y), Real.rpow_nonneg (by norm_num) _, ?_, ?_⟩
      · have : x - y ≤ 0 := by have := EReal.coe_le_coe_iff.mp h; linarith
        exact Real.rpow_le_one_of_one_le_of_nonpos (by norm_num) this
      · rw [← EReal.coe_sub, exp2_real]

/-- A weight under a maximum is not negative. -/
theorem weight_nonneg {x y : EReal} (h : x ≤ y) : 0 ≤ 𝔢 (x - y) := by
  obtain ⟨r, h0, _, e⟩ := weight_real h
  rw [e]; exact EReal.coe_nonneg.mpr h0

/-- A weight under a maximum is not infinite. -/
theorem weight_ne_top {x y : EReal} (h : x ≤ y) : 𝔢 (x - y) ≠ ⊤ := by
  obtain ⟨r, _, _, e⟩ := weight_real h
  rw [e]; exact EReal.coe_ne_top r

/-- Rescaling from one maximum to a greater one turns a weight into the weight under the greater one. -/
theorem weight_mul {x M M' : EReal} (h : x ≤ M) (h' : M ≤ M') : 𝔢 (x - M) * 𝔢 (M - M') = 𝔢 (x - M') := by
  induction M' with
  | bot =>
    obtain rfl := le_bot_iff.mp h'
    obtain rfl := le_bot_iff.mp h
    simp
  | top => rw [EReal.sub_top, EReal.sub_top]; simp
  | coe M' =>
    induction M with
    | bot =>
      obtain rfl := le_bot_iff.mp h
      simp
    | top => exact absurd h' (by simp)
    | coe M =>
      induction x with
      | bot => simp
      | top => exact absurd h (by simp)
      | coe x =>
        rw [← EReal.coe_sub, ← EReal.coe_sub, ← EReal.coe_sub, exp2_real, exp2_real, exp2_real, ← EReal.coe_mul]
        congr 1
        show (2 : ℝ) ^ (x - M) * (2 : ℝ) ^ (M - M') = (2 : ℝ) ^ (x - M')
        rw [← Real.rpow_add (by norm_num)]
        congr 1; ring

/-- A factor between 0 and ∞ distributes over a finite sum. -/
theorem sum_mul {ι : Type*} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih =>
    rw [Finset.sum_insert ha, Finset.sum_insert ha, ← ih, EReal.right_distrib_of_nonneg_of_ne_top h0 h1]

/-- The state of the running softmax over some scores: the maximum `M` is below exactly the bounds of the scores (`B`),
    and under every greater maximum the sums `L`, `A` rescale to the sums of weights (`F`) and of weighted values (`G`). -/
structure Rep (M L A : EReal) (B : EReal → Prop) (F G : EReal → EReal) : Prop where
  max : ∀ z, M ≤ z ↔ B z
  sum : ∀ z, M ≤ z → L * 𝔢 (M - z) = F z
  acc : ∀ z, M ≤ z → A * 𝔢 (M - z) = G z

/-- The state of one score `s` with value `v`. -/
theorem Rep.one (s v : EReal) : Rep s 1 v (fun z => s ≤ z) (fun z => 𝔢 (s - z)) (fun z => 𝔢 (s - z) * v) :=
  ⟨fun _ => Iff.rfl, fun _ _ => one_mul _, fun _ _ => mul_comm _ _⟩

/-- The sums after a block of scores `s` with values `v` are exact under the new maximum. -/
theorem Rep.exact {M L A : EReal} {B : EReal → Prop} {F G : EReal → EReal} (h : Rep M L A B F G) {k : ℕ} (s v : Fin k → EReal)
    {M' : EReal} (hM : M ≤ M') :
    L * 𝔢 (M - M') + ∑ j, 𝔢 (s j - M') = F M' + ∑ j, 𝔢 (s j - M')
      ∧ A * 𝔢 (M - M') + ∑ j, 𝔢 (s j - M') * v j = G M' + ∑ j, 𝔢 (s j - M') * v j :=
  ⟨by rw [h.sum _ hM], by rw [h.acc _ hM]⟩

/-- One block: the new maximum, the sums rescaled and the block's weights added. -/
theorem Rep.step {M L A : EReal} {B : EReal → Prop} {F G : EReal → EReal} (h : Rep M L A B F G) {k : ℕ} (s v : Fin k → EReal) :
    Rep (M ⊔ Finset.univ.sup s)
      (L * 𝔢 (M - (M ⊔ Finset.univ.sup s)) + ∑ j, 𝔢 (s j - (M ⊔ Finset.univ.sup s)))
      (A * 𝔢 (M - (M ⊔ Finset.univ.sup s)) + ∑ j, 𝔢 (s j - (M ⊔ Finset.univ.sup s)) * v j)
      (fun z => B z ∧ ∀ j, s j ≤ z) (fun z => F z + ∑ j, 𝔢 (s j - z)) (fun z => G z + ∑ j, 𝔢 (s j - z) * v j) := by
  have hM : M ≤ M ⊔ Finset.univ.sup s := le_sup_left
  have hs : ∀ j, s j ≤ M ⊔ Finset.univ.sup s := fun j => le_trans (Finset.le_sup (Finset.mem_univ j)) le_sup_right
  refine ⟨fun z => ?_, fun z hz => ?_, fun z hz => ?_⟩
  · rw [sup_le_iff, h.max, Finset.sup_le_iff]; simp
  · rw [EReal.right_distrib_of_nonneg_of_ne_top (weight_nonneg hz) (weight_ne_top hz), mul_assoc, weight_mul hM hz, h.sum _ (hM.trans hz),
      sum_mul _ _ (weight_nonneg hz) (weight_ne_top hz)]
    congr 1
    exact Finset.sum_congr rfl fun j _ => weight_mul (hs j) hz
  · rw [EReal.right_distrib_of_nonneg_of_ne_top (weight_nonneg hz) (weight_ne_top hz), mul_assoc, weight_mul hM hz, h.acc _ (hM.trans hz),
      sum_mul _ _ (weight_nonneg hz) (weight_ne_top hz)]
    congr 1
    refine Finset.sum_congr rfl fun j _ => ?_
    rw [mul_right_comm, weight_mul (hs j) hz]

/-! ## One row: the new token, its tail, and the prefix so far -/

variable (sN vN : EReal) (sT vT : Fin 1024 → EReal) (sP vP : ℕ → EReal)

/-- `z` bounds the new token's score, the tail's and the first `a` of the prefix. -/
def bnd (a : ℕ) (z : EReal) : Prop := (sN ≤ z ∧ ∀ t, sT t ≤ z) ∧ ∀ p < a, sP p ≤ z
/-- The sum of their weights under the maximum `z`. -/
def wsum (a : ℕ) (z : EReal) : EReal := (𝔢 (sN - z) + ∑ t, 𝔢 (sT t - z)) + ∑ p ∈ Finset.range a, 𝔢 (sP p - z)
/-- The sum of their values times the weights. -/
def wacc (a : ℕ) (z : EReal) : EReal :=
  (𝔢 (sN - z) * vN + ∑ t, 𝔢 (sT t - z) * vT t) + ∑ p ∈ Finset.range a, 𝔢 (sP p - z) * vP p

/-- The state of a row after the first `a` keys of the prefix. -/
abbrev Row (a : ℕ) (M L A : EReal) : Prop := Rep M L A (bnd sN sT sP a) (wsum sN sT sP a) (wacc sN vN sT vT sP vP a)

variable {sN vN sT vT sP vP}

/-- The new token and then the tail: the state before the prefix. -/
theorem Row.init :
    Row sN vN sT vT sP vP 0 (sN ⊔ Finset.univ.sup sT)
      (1 * 𝔢 (sN - (sN ⊔ Finset.univ.sup sT)) + ∑ j, 𝔢 (sT j - (sN ⊔ Finset.univ.sup sT)))
      (vN * 𝔢 (sN - (sN ⊔ Finset.univ.sup sT)) + ∑ j, 𝔢 (sT j - (sN ⊔ Finset.univ.sup sT)) * vT j) := by
  have h := (Rep.one sN vN).step sT vT
  refine ⟨fun z => ?_, fun z hz => ?_, fun z hz => ?_⟩
  · rw [h.max]; simp [bnd]
  · rw [h.sum z hz]; simp [wsum]
  · rw [h.acc z hz]; simp [wacc]

/-- One block of the prefix: the state after `k` more keys, whose scores are `s` and whose values are `v`; and the sums
    it leaves are exact under its own maximum. -/
theorem Row.step {a : ℕ} {M L A : EReal} (h : Row sN vN sT vT sP vP a M L A) {k : ℕ} (s v : Fin k → EReal)
    (hs : ∀ j, s j = sP (a + j.val)) (hv : ∀ j, v j = vP (a + j.val)) {M' : EReal} (hM : M' = M ⊔ Finset.univ.sup s) :
    Row sN vN sT vT sP vP (a + k) M' (L * 𝔢 (M - M') + ∑ j, 𝔢 (s j - M')) (A * 𝔢 (M - M') + ∑ j, 𝔢 (s j - M') * v j)
      ∧ L * 𝔢 (M - M') + ∑ j, 𝔢 (s j - M') = wsum sN sT sP (a + k) M'
      ∧ A * 𝔢 (M - M') + ∑ j, 𝔢 (s j - M') * v j = wacc sN vN sT vT sP vP (a + k) M' := by
  subst hM
  have hF : ∀ z, wsum sN sT sP a z + ∑ j, 𝔢 (s j - z) = wsum sN sT sP (a + k) z := fun z => by
    unfold wsum; rw [Finset.sum_range_add, Finset.sum_range (fun x => 𝔢 (sP (a + x) - z)), ← add_assoc]
    simp only [hs]
  have hG : ∀ z, wacc sN vN sT vT sP vP a z + ∑ j, 𝔢 (s j - z) * v j = wacc sN vN sT vT sP vP (a + k) z := fun z => by
    unfold wacc; rw [Finset.sum_range_add, Finset.sum_range (fun x => 𝔢 (sP (a + x) - z) * vP (a + x)), ← add_assoc]
    simp only [hs, hv]
  have h1 := Rep.step h s v
  have hE := Rep.exact h s v (M' := M ⊔ Finset.univ.sup s) le_sup_left
  refine ⟨⟨fun z => ?_, fun z hz => (h1.sum z hz).trans (hF z), fun z hz => (h1.acc z hz).trans (hG z)⟩, hE.1.trans (hF _), hE.2.trans (hG _)⟩
  rw [h1.max]; unfold bnd
  constructor
  · rintro ⟨⟨h2, h3⟩, h4⟩
    refine ⟨h2, fun p hp => ?_⟩
    by_cases hpa : p < a
    · exact h3 p hpa
    · have := h4 ⟨p - a, by omega⟩
      rw [hs] at this
      rwa [show a + (p - a) = p by omega] at this
  · rintro ⟨h2, h3⟩
    exact ⟨⟨h2, fun p hp => h3 p (by omega)⟩, fun j => by rw [hs]; exact h3 _ (by omega)⟩

/-! ## The base of the exponential -/

/-- The factor between the two bases: `2 ^ (x · κ) = exp x`. -/
def κ₂ : ℝ := (Real.log 2)⁻¹

/-- The factor between the bases is positive. -/
theorem κ₂_pos : 0 < κ₂ := inv_pos.mpr (Real.log_pos (by norm_num))

/-- Scaling by the factor between the bases keeps the order. -/
theorem mul_κ₂_le {x y : EReal} : x * (κ₂ : EReal) ≤ y * (κ₂ : EReal) ↔ x ≤ y := by
  constructor
  · intro h
    by_contra hc
    rw [not_le] at hc
    have : y * (κ₂ : EReal) < x * (κ₂ : EReal) := by
      induction y with
      | top => exact absurd hc (by simp)
      | bot =>
        rw [EReal.bot_mul_coe_of_pos κ₂_pos]
        induction x with
        | bot => exact absurd hc (by simp)
        | top => rw [EReal.top_mul_coe_of_pos κ₂_pos]; simp
        | coe x => rw [← EReal.coe_mul]; exact EReal.bot_lt_coe _
      | coe y =>
        induction x with
        | bot => exact absurd hc (by simp)
        | top => rw [EReal.top_mul_coe_of_pos κ₂_pos, ← EReal.coe_mul]; exact EReal.coe_lt_top _
        | coe x =>
          rw [← EReal.coe_mul, ← EReal.coe_mul]
          exact EReal.coe_lt_coe_iff.mpr (mul_lt_mul_of_pos_right (EReal.coe_lt_coe_iff.mp hc) κ₂_pos)
    exact absurd h (not_le.mpr this)
  · intro h
    exact mul_le_mul_of_nonneg_right h (EReal.coe_nonneg.mpr κ₂_pos.le)

/-- Weights to the base 2 of scaled scores are the weights to the base e. -/
theorem exp2_scaled (x y : EReal) : 𝔢 (x * (κ₂ : EReal) - y * (κ₂ : EReal)) = Ideal.exp (x - y) := by
  have key : ∀ r : ℝ, Real.rpow 2 (r * κ₂) = Real.exp r := fun r => by
    show (2 : ℝ) ^ (r * κ₂) = _
    rw [Real.rpow_def_of_pos (by norm_num), κ₂, mul_comm r, ← mul_assoc, mul_inv_cancel₀ (Real.log_pos (by norm_num)).ne', one_mul]
  induction y with
  | top => rw [EReal.top_mul_coe_of_pos κ₂_pos, EReal.sub_top, EReal.sub_top]; rfl
  | bot =>
    induction x with
    | bot => rw [EReal.bot_mul_coe_of_pos κ₂_pos, EReal.bot_sub]; rfl
    | top => rw [EReal.bot_mul_coe_of_pos κ₂_pos, EReal.top_mul_coe_of_pos κ₂_pos]; rfl
    | coe x => rw [EReal.bot_mul_coe_of_pos κ₂_pos, ← EReal.coe_mul]; rfl
  | coe y =>
    induction x with
    | bot => rw [EReal.bot_mul_coe_of_pos κ₂_pos, EReal.bot_sub, EReal.bot_sub]; rfl
    | top => rw [EReal.top_mul_coe_of_pos κ₂_pos, ← EReal.coe_mul]; rfl
    | coe x =>
      rw [← EReal.coe_mul, ← EReal.coe_mul, ← EReal.coe_sub, ← EReal.coe_sub, ← sub_mul, exp2_real, key]; rfl

/-! ## The result -/

/-- A sum of weights is a real. -/
theorem sum_weight_real {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih fun i hi => h i (Finset.mem_insert_of_mem hi)
    obtain ⟨q, hq⟩ := h a (Finset.mem_insert_self a s)
    exact ⟨q + r, by rw [Finset.sum_insert ha, hr, hq, EReal.coe_add]⟩

/-- The softmax of a row over the whole prefix, the tail and the new token: the running sums divided at the end are the
    weights divided first. The scores are scaled for the base 2 on one side; `l` is the sum of the weights, taken as 1
    where it is 0. -/
theorem result {n : ℕ} {rN vN : EReal} {rT xT yT : Fin 1024 → EReal} {rP xP yP : Fin n → EReal}
    {sN : EReal} {sT vT : Fin 1024 → EReal} {sP vP : ℕ → EReal} {M L A m l : EReal}
    (hsN : sN = rN * (κ₂ : EReal)) (hsT : ∀ t, sT t = rT t * (κ₂ : EReal)) (hsP : ∀ p : Fin n, sP p.val = rP p * (κ₂ : EReal))
    (hvT : ∀ t, vT t = xT t * yT t) (hvP : ∀ p : Fin n, vP p.val = xP p * yP p)
    (hM : ∀ z, M ≤ z ↔ bnd sN sT sP n z) (hL : L = wsum sN sT sP n M) (hA : A = wacc sN vN sT vT sP vP n M)
    (hm : m = Finset.univ.sup rP ⊔ (Finset.univ.sup rT ⊔ rN))
    (hl : l = ∑ p, Ideal.exp (rP p - m) + ∑ t, Ideal.exp (rT t - m) + Ideal.exp (rN - m)) :
    A * Ideal.div 1 L
      = (∑ p, Ideal.div (Ideal.exp (rP p - m)) (if 0 < l then l else 1) * xP p * yP p
          + ∑ t, Ideal.div (Ideal.exp (rT t - m)) (if 0 < l then l else 1) * xT t * yT t)
        + Ideal.div (Ideal.exp (rN - m)) (if 0 < l then l else 1) * vN := by
  have hMm : M = m * (κ₂ : EReal) := by
    apply le_antisymm
    · rw [hM]
      refine ⟨⟨?_, fun t => ?_⟩, fun p hp => ?_⟩
      · rw [hsN, mul_κ₂_le, hm]; exact le_sup_of_le_right le_sup_right
      · rw [hsT, mul_κ₂_le, hm]
        exact le_sup_of_le_right (le_sup_of_le_left (Finset.le_sup (Finset.mem_univ t)))
      · rw [hsP ⟨p, hp⟩, mul_κ₂_le, hm]; exact le_sup_of_le_left (Finset.le_sup (Finset.mem_univ (⟨p, hp⟩ : Fin n)))
    · have hb := (hM M).mp le_rfl
      obtain ⟨N, hN⟩ : ∃ N : EReal, M = N * (κ₂ : EReal) :=
        ⟨M * ((κ₂⁻¹ : ℝ) : EReal), by rw [mul_assoc, ← EReal.coe_mul, inv_mul_cancel₀ κ₂_pos.ne', EReal.coe_one, mul_one]⟩
      rw [hN] at hb ⊢
      rw [mul_κ₂_le, hm]
      refine sup_le (Finset.sup_le fun p _ => ?_) (sup_le (Finset.sup_le fun t _ => ?_) ?_)
      · have := hb.2 p.val p.isLt; rwa [hsP p, mul_κ₂_le] at this
      · have := hb.1.2 t; rwa [hsT, mul_κ₂_le] at this
      · have := hb.1.1; rwa [hsN, mul_κ₂_le] at this
  have hw : ∀ r : EReal, r ≤ m → ∃ q : ℝ, 0 ≤ q ∧ Ideal.exp (r - m) = (q : EReal) := fun r hr => by
    obtain ⟨q, h0, _, e⟩ := weight_real (mul_κ₂_le.mpr hr)
    exact ⟨q, h0, by rw [← exp2_scaled, e]⟩
  have hPle : ∀ p, rP p ≤ m := fun p => by rw [hm]; exact le_sup_of_le_left (Finset.le_sup (Finset.mem_univ p))
  have hTle : ∀ t, rT t ≤ m := fun t => by rw [hm]; exact le_sup_of_le_right (le_sup_of_le_left (Finset.le_sup (Finset.mem_univ t)))
  have hNle : rN ≤ m := by rw [hm]; exact le_sup_of_le_right le_sup_right
  have hwP : ∀ p : Fin n, 𝔢 (sP p.val - M) = Ideal.exp (rP p - m) := fun p => by rw [hsP, hMm, exp2_scaled]
  have hwT : ∀ t, 𝔢 (sT t - M) = Ideal.exp (rT t - m) := fun t => by rw [hsT, hMm, exp2_scaled]
  have hwN : 𝔢 (sN - M) = Ideal.exp (rN - m) := by rw [hsN, hMm, exp2_scaled]
  have hLl : L = l := by
    rw [hL, hl]; unfold wsum
    rw [Finset.sum_range (fun x => 𝔢 (sP x - M)), hwN]; simp only [hwP, hwT]
    rw [add_comm (Ideal.exp (rN - m)), add_right_comm, add_comm (∑ t, Ideal.exp (rT t - m))]
  have hAa : A = (∑ p, Ideal.exp (rP p - m) * (xP p * yP p) + ∑ t, Ideal.exp (rT t - m) * (xT t * yT t)) + Ideal.exp (rN - m) * vN := by
    rw [hA]; unfold wacc
    rw [Finset.sum_range (fun x => 𝔢 (sP x - M) * vP x), hwN]; simp only [hwP, hwT, hvT, hvP]
    rw [add_comm (Ideal.exp (rN - m) * vN), add_right_comm, add_comm (∑ t, Ideal.exp (rT t - m) * (xT t * yT t))]
  generalize hP' : (fun p => Ideal.exp (rP p - m)) = wP at *
  have eP : ∀ p, Ideal.exp (rP p - m) = wP p := fun p => congrFun hP' p
  generalize hT' : (fun t => Ideal.exp (rT t - m)) = wT at *
  have eT : ∀ t, Ideal.exp (rT t - m) = wT t := fun t => congrFun hT' t
  have nP : ∀ p, ∃ q : ℝ, 0 ≤ q ∧ wP p = (q : EReal) := fun p => by rw [← eP]; exact hw _ (hPle p)
  have nT : ∀ t, ∃ q : ℝ, 0 ≤ q ∧ wT t = (q : EReal) := fun t => by rw [← eT]; exact hw _ (hTle t)
  obtain ⟨wN, nN, eN⟩ := hw _ hNle
  simp only [eP, eT, eN] at hl hAa ⊢
  have pP : ∀ p, 0 ≤ wP p := fun p => by obtain ⟨q, h0, e⟩ := nP p; rw [e]; exact EReal.coe_nonneg.mpr h0
  have pT : ∀ t, 0 ≤ wT t := fun t => by obtain ⟨q, h0, e⟩ := nT t; rw [e]; exact EReal.coe_nonneg.mpr h0
  have sumP : 0 ≤ ∑ p, wP p := Finset.sum_nonneg fun p _ => pP p
  have sumT : 0 ≤ ∑ t, wT t := Finset.sum_nonneg fun t _ => pT t
  have pN : (0 : EReal) ≤ (wN : EReal) := EReal.coe_nonneg.mpr nN
  by_cases hpos : 0 < l
  · rw [if_pos hpos, hLl]
    obtain ⟨a, ha⟩ := sum_weight_real Finset.univ wP fun p _ => (nP p).imp fun _ h => h.2
    obtain ⟨b, hb⟩ := sum_weight_real Finset.univ wT fun t _ => (nT t).imp fun _ h => h.2
    obtain ⟨lr, hlr⟩ : ∃ r : ℝ, l = (r : EReal) := ⟨a + b + wN, by rw [hl, ha, hb, EReal.coe_add, EReal.coe_add]⟩
    have hlr0 : 0 < lr := by rw [hlr] at hpos; exact EReal.coe_pos.mp hpos
    have hdiv : ∀ x : EReal, Ideal.div x l = x * ((lr⁻¹ : ℝ) : EReal) := fun x => by
      rw [hlr, Ideal.div_coe hlr0.ne', one_div]
    have c0 : (0 : EReal) ≤ ((lr⁻¹ : ℝ) : EReal) := EReal.coe_nonneg.mpr (inv_pos.mpr hlr0).le
    have c1 : ((lr⁻¹ : ℝ) : EReal) ≠ ⊤ := EReal.coe_ne_top _
    simp only [hdiv, one_mul]
    rw [hAa, EReal.right_distrib_of_nonneg_of_ne_top c0 c1, EReal.right_distrib_of_nonneg_of_ne_top c0 c1, sum_mul _ _ c0 c1, sum_mul _ _ c0 c1]
    congr 1
    · congr 1
      · refine Finset.sum_congr rfl fun p _ => ?_
        rw [mul_right_comm, mul_assoc (wP p * _)]
      · refine Finset.sum_congr rfl fun t _ => ?_
        rw [mul_right_comm, mul_assoc (wT t * _)]
    · rw [mul_right_comm]
  · have hl0 : l = 0 := le_antisymm (not_lt.mp hpos) (by rw [hl]; exact add_nonneg (add_nonneg sumP sumT) pN)
    rw [if_neg hpos]
    have hz : ∑ p, wP p + ∑ t, wT t + (wN : EReal) = 0 := hl.symm.trans hl0
    have z1 := (add_eq_zero_iff_of_nonneg (add_nonneg sumP sumT) pN).mp hz
    have z2 := (add_eq_zero_iff_of_nonneg sumP sumT).mp z1.1
    have zP : ∀ p, wP p = 0 := fun p => (Finset.sum_eq_zero_iff_of_nonneg fun p _ => pP p).mp z2.1 p (Finset.mem_univ p)
    have zT : ∀ t, wT t = 0 := fun t => (Finset.sum_eq_zero_iff_of_nonneg fun t _ => pT t).mp z2.2 t (Finset.mem_univ t)
    have d0 : Ideal.div 0 1 = 0 := by unfold Ideal.div; rw [if_neg one_ne_zero, zero_mul]
    rw [hAa]
    simp only [zP, zT, z1.2, d0, zero_mul, Finset.sum_const_zero, add_zero]

end Cert.Softmax

end
-- ==== Proof.Value.Pre.lean ====
/- The running softmax's step over one block of the prefix, at coordinates, on extended reals. -/
module

public import proofs.«01_k».proof.Proof.Gen.KernelIdeal.Skeleton
public import proofs.«01_k».proof.Proof.Value.Max
public import proofs.«01_k».proof.Proof.Value.Math

@[expose] public section

set_option maxRecDepth 16384

noncomputable section

namespace Cert.KernelIdeal.Value

open Cert.KernelIdeal Cert.KernelIdeal.Gen Idealize.ShloMosaic Idealize.ShloMosaic.TcCoe

/-- The exponential to the base 2. -/
local notation "𝔢" => Ideal.exp2

/-- The real that the kernel's scale stands for. -/
def scale2 : EReal := (((11863283 / 134217728) * (Real.log 2)⁻¹ : ℝ) : EReal)

variable (k0 k1 v0 v1 : Vec Ideal S1x4096x128 .fp8e4m3) (q : Vec Ideal S128x256 .bf16) (s0 s1 : Vec Ideal S1x4096 .f32)
  (m l acc : Vec Ideal S128x128 .f32)

/-- The word of minus infinity. -/
theorem neg_inf : Ideal.ofBits .f32 4286578688#32 = ⊥ := Cert.Maxima.negInf

/-- The named constant is the real scale to the base 2. -/
theorem named_scale2 : Named.named (F := Ideal) κ "scale2" (φ := .f32) 1040356334#32 = scale2 :=
  IdealRules.named_const.ideal_named_scalar _ _ _ _ rfl

/-- The block's new maxima. -/
def preM : FVec Ideal S128x128 .f32 := k0_pay3 (k0_pay241 (F := Ideal) k0 k1 q m)
/-- The block's new sums of weights, spread over the lanes. -/
def preL : FVec Ideal S128x128 .f32 :=
  k0_pay2 (k0_pay246 (k0_pay243 (F := Ideal) k0 k1 q m) (k0_pay244 (F := Ideal) k0 k1 q m l) (k0_pay245 (F := Ideal) k0 k1 q m))
/-- The block's new weighted sums of values. -/
def preA : FVec Ideal S128x128 .f32 :=
  k0_pay1 (k0_pay239 (F := Ideal) v0 v1) (k0_pay242 (F := Ideal) k0 k1 q m) (k0_pay243 (F := Ideal) k0 k1 q m)
    (k0_pay247 (k0_pay243 (F := Ideal) k0 k1 q m)) s0 s1 acc

/-- A prefix score, in coordinates. -/
theorem score_apply (r : Fin 128) (j : Fin 4096) : k0_pay240 (F := Ideal) k0 k1 q (ix2 r j)
    = (∑ x : Fin 128, q (ix2 r ⟨x.val, by omega⟩) * k0 (ix3 0 j x) + ∑ x : Fin 128, q (ix2 r ⟨128 + x.val, by omega⟩) * k1 (ix3 0 j x)) * scale2 := by
  pointwise [k0_pay240]
  rw [named_scale2]

variable {r : Fin 128} {M : EReal} (sc : Fin 4096 → EReal)

/-- The maximum after a block, in coordinates. -/
theorem max_apply (hsc : ∀ j, k0_pay240 (F := Ideal) k0 k1 q (ix2 r j) = sc j) (hm : ∀ x, m (ix2 r x) = M) (x : Fin 128) :
    k0_pay241 (F := Ideal) k0 k1 q m (ix2 r x) = M ⊔ Finset.univ.sup sc := by
  unfold k0_pay241
  generalize k0_pay240 (F := Ideal) k0 k1 q = s at *
  pointwise
  rw [neg_inf, Cert.Maxima.fold_eq_sup, hm, funext hsc]

/-- The new maxima of a row: one value in every lane. -/
theorem preM_apply (hsc : ∀ j, k0_pay240 (F := Ideal) k0 k1 q (ix2 r j) = sc j) (hm : ∀ x, m (ix2 r x) = M) (x : Fin 128) :
    preM k0 k1 q m (ix2 r x) = M ⊔ Finset.univ.sup sc := by
  have h := max_apply k0 k1 q m sc hsc hm x
  unfold preM
  generalize k0_pay241 (F := Ideal) k0 k1 q m = s at *
  pointwise [k0_pay3]
  exact h

/-- The factor that rescales the old sums, in coordinates. -/
theorem scale_apply (hsc : ∀ j, k0_pay240 (F := Ideal) k0 k1 q (ix2 r j) = sc j) (hm : ∀ x, m (ix2 r x) = M) (x : Fin 128) :
    k0_pay242 (F := Ideal) k0 k1 q m (ix2 r x) = 𝔢 (M - (M ⊔ Finset.univ.sup sc)) := by
  have h := max_apply k0 k1 q m sc hsc hm x
  unfold k0_pay242
  generalize k0_pay241 (F := Ideal) k0 k1 q m = s at *
  pointwise
  rw [h, hm]
  rfl

/-- A weight of a block, in coordinates. -/
theorem weight_apply (hsc : ∀ j, k0_pay240 (F := Ideal) k0 k1 q (ix2 r j) = sc j) (hm : ∀ x, m (ix2 r x) = M) (j : Fin 4096) :
    k0_pay243 (F := Ideal) k0 k1 q m (ix2 r j) = 𝔢 (sc j - (M ⊔ Finset.univ.sup sc)) := by
  have h := max_apply k0 k1 q m sc hsc hm 0
  unfold k0_pay243
  generalize k0_pay241 (F := Ideal) k0 k1 q m = s at *
  generalize k0_pay240 (F := Ideal) k0 k1 q = s' at *
  pointwise
  rw [h, hsc]
  rfl

/-- A sum over a row of lanes of slices is the sum over the row. -/
theorem sum_slices {n : ℕ} (f : Fin (n * 128) → EReal) :
    ∑ x : Fin 128, ∑ c : Fin n, f ⟨c.val * 128 + x.val, by omega⟩ = ∑ j, f j := by
  rw [Finset.sum_comm, ← (finProdFinEquiv (m := n) (n := 128)).sum_comp, Fintype.sum_prod_type]
  exact Finset.sum_congr rfl fun c _ => Finset.sum_congr rfl fun x _ => congrArg f (Fin.ext (by
    show c.val * 128 + x.val = x.val + 128 * c.val; omega))

/-- The sums of a block per lane, in coordinates. -/
theorem lanes_apply (hsc : ∀ j, k0_pay240 (F := Ideal) k0 k1 q (ix2 r j) = sc j) (hm : ∀ x, m (ix2 r x) = M) (x : Fin 128) :
    preL k0 k1 q m l (ix2 r x) = l (ix2 r x) * 𝔢 (M - (M ⊔ Finset.univ.sup sc))
      + ∑ c : Fin 32, 𝔢 (sc ⟨c.val * 128 + x.val, by omega⟩ - (M ⊔ Finset.univ.sup sc)) := by
  have h := scale_apply k0 k1 q m sc hsc hm x
  have hw := weight_apply k0 k1 q m sc hsc hm
  unfold preL k0_pay244 k0_pay245
  generalize k0_pay242 (F := Ideal) k0 k1 q m = al at *
  generalize k0_pay243 (F := Ideal) k0 k1 q m = e at *
  pointwise [k0_pay2, k0_pay246]
  simp only [h, hw]
  generalize M ⊔ Finset.univ.sup sc = M'
  simp only [Fin.sum_univ_castSucc, Finset.univ_eq_empty, Finset.sum_empty, zero_add, ← add_assoc, Fin.val_castSucc, Fin.val_last,
    Nat.reduceMul, Nat.zero_mul, Nat.zero_add]

/-- The new sum of weights of a row, over all its lanes. -/
theorem preL_apply (hsc : ∀ j, k0_pay240 (F := Ideal) k0 k1 q (ix2 r j) = sc j) (hm : ∀ x, m (ix2 r x) = M) :
    ∑ x : Fin 128, (preL k0 k1 q m l (ix2 r x) : EReal) = (∑ x : Fin 128, (l (ix2 r x) : EReal)) * 𝔢 (M - (M ⊔ Finset.univ.sup sc))
      + ∑ j, 𝔢 (sc j - (M ⊔ Finset.univ.sup sc)) := by
  have hM : M ≤ M ⊔ Finset.univ.sup sc := le_sup_left
  rw [Finset.sum_congr rfl fun x _ => lanes_apply k0 k1 q m l sc hsc hm x, Finset.sum_add_distrib,
    Cert.Softmax.sum_mul _ _ (Cert.Softmax.weight_nonneg hM) (Cert.Softmax.weight_ne_top hM)]
  exact congrArg _ (sum_slices (n := 32) fun j => 𝔢 (sc j - (M ⊔ Finset.univ.sup sc)))

/-- The new weighted sum of values of a row of head 0. -/
theorem preA_apply0 {r : Fin 64} (hsc : ∀ j, k0_pay240 (F := Ideal) k0 k1 q (ix2 (⟨r.val, by omega⟩ : Fin 128) j) = sc j)
    (hm : ∀ x, m (ix2 (⟨r.val, by omega⟩ : Fin 128) x) = M) (d : Fin 128) :
    preA k0 k1 v0 v1 q s0 s1 m acc (ix2 (⟨r.val, by omega⟩ : Fin 128) d)
      = acc (ix2 (⟨r.val, by omega⟩ : Fin 128) d) * 𝔢 (M - (M ⊔ Finset.univ.sup sc))
        + ∑ j, 𝔢 (sc j - (M ⊔ Finset.univ.sup sc)) * (s0 (ix2 0 j) * v0 (ix3 0 j d)) := by
  have h := scale_apply k0 k1 q m sc hsc hm d
  have hw := weight_apply k0 k1 q m sc hsc hm
  unfold preA
  generalize k0_pay242 (F := Ideal) k0 k1 q m = al at *
  generalize k0_pay243 (F := Ideal) k0 k1 q m = e at *
  pointwise [k0_pay1, k0_pay239, k0_pay247]
  simp only [h, hw, mul_assoc]

/-- The new weighted sum of values of a row of head 1. -/
theorem preA_apply1 {r : Fin 64} (hsc : ∀ j, k0_pay240 (F := Ideal) k0 k1 q (ix2 (⟨64 + r.val, by omega⟩ : Fin 128) j) = sc j)
    (hm : ∀ x, m (ix2 (⟨64 + r.val, by omega⟩ : Fin 128) x) = M) (d : Fin 128) :
    preA k0 k1 v0 v1 q s0 s1 m acc (ix2 (⟨64 + r.val, by omega⟩ : Fin 128) d)
      = acc (ix2 (⟨64 + r.val, by omega⟩ : Fin 128) d) * 𝔢 (M - (M ⊔ Finset.univ.sup sc))
        + ∑ j, 𝔢 (sc j - (M ⊔ Finset.univ.sup sc)) * (s1 (ix2 0 j) * v1 (ix3 0 j d)) := by
  have h := scale_apply k0 k1 q m sc hsc hm d
  have hw := weight_apply k0 k1 q m sc hsc hm
  unfold preA
  generalize k0_pay242 (F := Ideal) k0 k1 q m = al at *
  generalize k0_pay243 (F := Ideal) k0 k1 q m = e at *
  pointwise [k0_pay1, k0_pay239, k0_pay247]
  simp only [h, hw, mul_assoc]

end Cert.KernelIdeal.Value

end
-- ==== Proof.Value.Tail.lean ====
/- The running softmax's step over one sequence's tail, at coordinates, on extended reals. -/
module

public import proofs.«01_k».proof.Proof.Value.Pre

@[expose] public section

set_option maxRecDepth 16384

noncomputable section

namespace Cert.KernelIdeal.Value

open Cert.KernelIdeal Cert.KernelIdeal.Gen Idealize.ShloMosaic Idealize.ShloMosaic.TcCoe

/-- The exponential to the base 2. -/
local notation "𝔢" => Ideal.exp2

variable (q : Vec Ideal S16x128 .f32) (k0 k1 v0 v1 : Vec Ideal S1x1x1024x128 .fp8e4m3) (n : BitVec 32) (t0 t1 u0 u1 : Vec Ideal S1x1x1024 .f32)
  (m l acc : Vec Ideal S16x128 .f32)

/-- The tail's scores. -/
def tailS : FVec Ideal S16x1024 .f32 := k0_pay130 (k0_pay127 q k0 k1) (k0_pay128 (F := Ideal) n) (k0_pay129 q k0 k1) t0 t1
/-- The new maxima. -/
def tailMax : FVec Ideal S16x128 .f32 := k0_pay131 (k0_pay127 q k0 k1) (k0_pay128 (F := Ideal) n) (k0_pay129 q k0 k1) t0 t1 m
/-- The factors that rescale the sums. -/
def tailF : FVec Ideal S16x128 .f32 := k0_pay132 (k0_pay127 q k0 k1) (k0_pay128 (F := Ideal) n) (k0_pay129 q k0 k1) t0 t1 m
/-- The weights. -/
def tailE : FVec Ideal S16x1024 .f32 := k0_pay133 (k0_pay127 q k0 k1) (k0_pay128 (F := Ideal) n) (k0_pay129 q k0 k1) t0 t1 m
/-- The new maxima, as stored. -/
def tailM : FVec Ideal S16x128 .f32 := k0_pay138 (tailMax q k0 k1 n t0 t1 m)
/-- The new sums of weights, spread over the lanes. -/
def tailL : FVec Ideal S16x128 .f32 :=
  k0_pay137 (k0_pay134 (k0_pay127 q k0 k1) (k0_pay128 (F := Ideal) n) (k0_pay129 q k0 k1) t0 t1 m l)
    (k0_pay135 (k0_pay127 q k0 k1) (k0_pay128 (F := Ideal) n) (k0_pay129 q k0 k1) t0 t1 m)
/-- The new weighted sums of values. -/
def tailA : FVec Ideal S16x128 .f32 :=
  k0_pay136 (k0_pay126 v0 v1) (tailF q k0 k1 n t0 t1 m) (tailE q k0 k1 n t0 t1 m) u0 u1 acc

/-- A tail position's score for a query of head 0. -/
theorem tailS_apply0 (g : Fin 8) (j : Fin 1024) : tailS q k0 k1 n t0 t1 (ix2 (⟨g.val, by omega⟩ : Fin 16) j)
    = Scalar.select (IntOp.cmpi .slt (BitVec.ofNat 32 j.val) n)
        ((∑ x : Fin 128, q (ix2 (⟨g.val, by omega⟩ : Fin 16) x) * k0 (ix4 0 0 j x)) * t0 (ix3 0 0 j) * scale2) ⊥ := by
  unfold tailS
  pointwise [k0_pay130, k0_pay127, k0_pay128, k0_pay129]
  rw [named_scale2, neg_inf]
  simp only [Ideal.ofBits_zero_bf16, zero_mul, Finset.sum_const_zero, add_zero]

/-- A tail position's score for a query of head 1. -/
theorem tailS_apply1 (g : Fin 8) (j : Fin 1024) : tailS q k0 k1 n t0 t1 (ix2 (⟨8 + g.val, by omega⟩ : Fin 16) j)
    = Scalar.select (IntOp.cmpi .slt (BitVec.ofNat 32 j.val) n)
        ((∑ x : Fin 128, q (ix2 (⟨8 + g.val, by omega⟩ : Fin 16) x) * k1 (ix4 0 0 j x)) * t1 (ix3 0 0 j) * scale2) ⊥ := by
  unfold tailS
  pointwise [k0_pay130, k0_pay127, k0_pay128, k0_pay129]
  rw [named_scale2, neg_inf]
  simp only [Ideal.ofBits_zero_bf16, zero_mul, Finset.sum_const_zero, zero_add]

variable {r : Fin 16} {M : EReal} (sc : Fin 1024 → EReal)

/-- The maximum after a tail, in coordinates. -/
theorem tailMax_apply (hsc : ∀ j, tailS q k0 k1 n t0 t1 (ix2 r j) = sc j) (hm : ∀ x, m (ix2 r x) = M) (x : Fin 128) :
    tailMax q k0 k1 n t0 t1 m (ix2 r x) = M ⊔ Finset.univ.sup sc := by
  unfold tailMax k0_pay131
  unfold tailS at hsc
  generalize k0_pay130 (k0_pay127 q k0 k1) (k0_pay128 (F := Ideal) n) (k0_pay129 q k0 k1) t0 t1 = s at *
  pointwise
  rw [neg_inf, Cert.Maxima.fold_eq_sup, hm, funext hsc]

/-- The new maxima of a row: one value in every lane. -/
theorem tailM_apply (hsc : ∀ j, tailS q k0 k1 n t0 t1 (ix2 r j) = sc j) (hm : ∀ x, m (ix2 r x) = M) (x : Fin 128) :
    tailM q k0 k1 n t0 t1 m (ix2 r x) = M ⊔ Finset.univ.sup sc := by
  have h := tailMax_apply q k0 k1 n t0 t1 m sc hsc hm x
  unfold tailM
  generalize tailMax q k0 k1 n t0 t1 m = s at *
  pointwise [k0_pay138]
  exact h

/-- The factor that rescales the old sums, in coordinates. -/
theorem tailF_apply (hsc : ∀ j, tailS q k0 k1 n t0 t1 (ix2 r j) = sc j) (hm : ∀ x, m (ix2 r x) = M) (x : Fin 128) :
    tailF q k0 k1 n t0 t1 m (ix2 r x) = 𝔢 (M - (M ⊔ Finset.univ.sup sc)) := by
  have h := tailMax_apply q k0 k1 n t0 t1 m sc hsc hm x
  unfold tailF k0_pay132
  unfold tailMax at h
  generalize k0_pay131 (k0_pay127 q k0 k1) (k0_pay128 (F := Ideal) n) (k0_pay129 q k0 k1) t0 t1 m = s at *
  pointwise
  rw [h, hm]
  rfl

/-- A weight of a tail, in coordinates. -/
theorem tailE_apply (hsc : ∀ j, tailS q k0 k1 n t0 t1 (ix2 r j) = sc j) (hm : ∀ x, m (ix2 r x) = M) (j : Fin 1024) :
    tailE q k0 k1 n t0 t1 m (ix2 r j) = 𝔢 (sc j - (M ⊔ Finset.univ.sup sc)) := by
  have h := tailMax_apply q k0 k1 n t0 t1 m sc hsc hm 0
  unfold tailE k0_pay133
  unfold tailMax at h
  unfold tailS at hsc
  generalize k0_pay131 (k0_pay127 q k0 k1) (k0_pay128 (F := Ideal) n) (k0_pay129 q k0 k1) t0 t1 m = s at *
  generalize k0_pay130 (k0_pay127 q k0 k1) (k0_pay128 (F := Ideal) n) (k0_pay129 q k0 k1) t0 t1 = s' at *
  pointwise
  rw [h, hsc]
  rfl

/-- The sums of a tail per lane, in coordinates. -/
theorem tail_lanes_apply (hsc : ∀ j, tailS q k0 k1 n t0 t1 (ix2 r j) = sc j) (hm : ∀ x, m (ix2 r x) = M) (x : Fin 128) :
    tailL q k0 k1 n t0 t1 m l (ix2 r x) = l (ix2 r x) * 𝔢 (M - (M ⊔ Finset.univ.sup sc))
      + ∑ c : Fin 8, 𝔢 (sc ⟨c.val * 128 + x.val, by omega⟩ - (M ⊔ Finset.univ.sup sc)) := by
  have h := tailF_apply q k0 k1 n t0 t1 m sc hsc hm x
  have hw := tailE_apply q k0 k1 n t0 t1 m sc hsc hm
  unfold tailL k0_pay134 k0_pay135
  unfold tailF at h
  unfold tailE at hw
  generalize k0_pay132 (k0_pay127 q k0 k1) (k0_pay128 (F := Ideal) n) (k0_pay129 q k0 k1) t0 t1 m = al at *
  generalize k0_pay133 (k0_pay127 q k0 k1) (k0_pay128 (F := Ideal) n) (k0_pay129 q k0 k1) t0 t1 m = e at *
  pointwise [k0_pay137]
  simp only [h, hw]
  generalize M ⊔ Finset.univ.sup sc = M'
  simp only [Fin.sum_univ_castSucc, Finset.univ_eq_empty, Finset.sum_empty, zero_add, ← add_assoc, Fin.val_castSucc, Fin.val_last,
    Nat.reduceMul, Nat.zero_mul, Nat.zero_add]

/-- The new sum of weights of a row, over all its lanes. -/
theorem tailL_apply (hsc : ∀ j, tailS q k0 k1 n t0 t1 (ix2 r j) = sc j) (hm : ∀ x, m (ix2 r x) = M) :
    ∑ x : Fin 128, (tailL q k0 k1 n t0 t1 m l (ix2 r x) : EReal) = (∑ x : Fin 128, (l (ix2 r x) : EReal)) * 𝔢 (M - (M ⊔ Finset.univ.sup sc))
      + ∑ j, 𝔢 (sc j - (M ⊔ Finset.univ.sup sc)) := by
  have hM : M ≤ M ⊔ Finset.univ.sup sc := le_sup_left
  rw [Finset.sum_congr rfl fun x _ => tail_lanes_apply q k0 k1 n t0 t1 m l sc hsc hm x, Finset.sum_add_distrib,
    Cert.Softmax.sum_mul _ _ (Cert.Softmax.weight_nonneg hM) (Cert.Softmax.weight_ne_top hM)]
  exact congrArg _ (sum_slices (n := 8) fun j => 𝔢 (sc j - (M ⊔ Finset.univ.sup sc)))

/-- The new weighted sum of values of a row of head 0. -/
theorem tailA_apply0 {g : Fin 8} (hsc : ∀ j, tailS q k0 k1 n t0 t1 (ix2 (⟨g.val, by omega⟩ : Fin 16) j) = sc j)
    (hm : ∀ x, m (ix2 (⟨g.val, by omega⟩ : Fin 16) x) = M) (d : Fin 128) :
    tailA q k0 k1 v0 v1 n t0 t1 u0 u1 m acc (ix2 (⟨g.val, by omega⟩ : Fin 16) d)
      = acc (ix2 (⟨g.val, by omega⟩ : Fin 16) d) * 𝔢 (M - (M ⊔ Finset.univ.sup sc))
        + ∑ j, 𝔢 (sc j - (M ⊔ Finset.univ.sup sc)) * (u0 (ix3 0 0 j) * v0 (ix4 0 0 j d)) := by
  have h := tailF_apply q k0 k1 n t0 t1 m sc hsc hm d
  have hw := tailE_apply q k0 k1 n t0 t1 m sc hsc hm
  unfold tailA
  generalize tailF q k0 k1 n t0 t1 m = al at *
  generalize tailE q k0 k1 n t0 t1 m = e at *
  pointwise [k0_pay136, k0_pay126]
  simp only [h, hw, mul_assoc]

/-- The new weighted sum of values of a row of head 1. -/
theorem tailA_apply1 {g : Fin 8} (hsc : ∀ j, tailS q k0 k1 n t0 t1 (ix2 (⟨8 + g.val, by omega⟩ : Fin 16) j) = sc j)
    (hm : ∀ x, m (ix2 (⟨8 + g.val, by omega⟩ : Fin 16) x) = M) (d : Fin 128) :
    tailA q k0 k1 v0 v1 n t0 t1 u0 u1 m acc (ix2 (⟨8 + g.val, by omega⟩ : Fin 16) d)
      = acc (ix2 (⟨8 + g.val, by omega⟩ : Fin 16) d) * 𝔢 (M - (M ⊔ Finset.univ.sup sc))
        + ∑ j, 𝔢 (sc j - (M ⊔ Finset.univ.sup sc)) * (u1 (ix3 0 0 j) * v1 (ix4 0 0 j d)) := by
  have h := tailF_apply q k0 k1 n t0 t1 m sc hsc hm d
  have hw := tailE_apply q k0 k1 n t0 t1 m sc hsc hm
  unfold tailA
  generalize tailF q k0 k1 n t0 t1 m = al at *
  generalize tailE q k0 k1 n t0 t1 m = e at *
  pointwise [k0_pay136, k0_pay126]
  simp only [h, hw, mul_assoc]

end Cert.KernelIdeal.Value

end
-- ==== Proof.Value.Rows.lean ====
/- A buffer of 128 rows written in blocks of 8 rows, or 8 rows apart, and read back. -/
module

public import proofs.«01_k».proof.Proof.Gen.KernelIdeal.Skeleton
public import proofs.«01_k».proof.Proof.Value.Max
public import Idealize.ShloMosaic.Lib.Pipeline.ReadBack

@[expose] public section

set_option maxRecDepth 16384

noncomputable section

namespace Cert.KernelIdeal.Value

open Cert.KernelIdeal Cert.KernelIdeal.Gen Idealize.ShloMosaic

/-- Every eighth row from row `b`: the rows of sequence `b`. -/
abbrev seqRect (b : Fin 8) : Rect S128x128 where
  off := ![b.val, 0]
  size := S16x128.size
  stride := ![8, 1]
  inb := by
    have := b.isLt
    intro a
    fin_cases a
    · right; show b.val + 8 * (16 - 1) < 128; omega
    · right; show 0 + 1 * (128 - 1) < 128; omega
  stride_pos := by decide

/-- The eight rows of query head `h`. -/
abbrev headRect (h : Fin 16) : Rect S128x128 :=
  Rect.unit ![8 * h.val, 0] S8x128.size (by
    have := h.isLt
    intro a
    fin_cases a
    · show 8 * h.val + 8 ≤ 128; omega
    · show 0 + 128 ≤ 128; omega)

/-- Where a sequence's rows lie. -/
theorem seqRect_idx (b : Fin 8) (y : Fin 16) (x : Fin 128) : (seqRect b).idx (ix2 y x) = ix2 (⟨8 * y.val + b.val, by omega⟩ : Fin 128) x := by
  funext a
  apply Fin.ext
  fin_cases a
  · show b.val + 8 * y.val = 8 * y.val + b.val; omega
  · show 0 + 1 * x.val = x.val; omega

/-- Where a head's rows lie. -/
theorem headRect_idx (h : Fin 16) (y : Fin 8) (x : Fin 128) : (headRect h).idx (ix2 y x) = ix2 (⟨8 * h.val + y.val, by omega⟩ : Fin 128) x := by
  funext a
  apply Fin.ext
  fin_cases a
  · show 8 * h.val + 1 * y.val = 8 * h.val + y.val; omega
  · show 0 + 1 * x.val = x.val; omega

variable {e : EltTy}

/-- The rows of sequence `b` of a buffer of 128 rows. -/
def rows (b : Fin 8) (P : Vec Ideal S128x128 e) : Vec Ideal S16x128 e := fun j => P ((seqRect b).idx j)

/-- One sequence's rows, in coordinates. -/
theorem rows_apply (b : Fin 8) (P : Vec Ideal S128x128 e) (y : Fin 16) (x : Fin 128) : rows b P (ix2 y x) = P (ix2 (⟨8 * y.val + b.val, by omega⟩ : Fin 128) x) := by
  unfold rows; rw [seqRect_idx]

/-- One sequence's rows stored over earlier stores. -/
theorem canon_seq (b : Fin 8) (w : Vec Ideal S16x128 e) (L : List (View.Piece (Elt Ideal) S128x128 e)) (r x : Fin 128) :
    View.canon (⟨seqRect b, w⟩ :: L) (ix2 r x) = if r.val % 8 = b.val then w (ix2 (⟨r.val / 8, by omega⟩ : Fin 16) x) else View.canon L (ix2 r x) := by
  split
  · rename_i h
    have e : (ix2 r x : S128x128.Idx) = (seqRect b).emb (ix2 (⟨r.val / 8, by omega⟩ : Fin 16) x) := by
      rw [show (seqRect b).emb (ix2 (⟨r.val / 8, by omega⟩ : Fin 16) x) = _ from seqRect_idx b _ x]
      congr 1
      apply Fin.ext
      show r.val = 8 * (r.val / 8) + b.val
      omega
    rw [e]
    exact View.canon_cons_emb (seqRect b) w L _
  · rename_i h
    refine View.canon_cons_of_not_mem ⟨seqRect b, w⟩ L fun hm => h ?_
    obtain ⟨j, hj⟩ := (seqRect b).exists_idx_of_mem hm
    have h0 := congrArg (fun z : S128x128.Idx => (z 0).val) hj
    have : b.val + 8 * (j 0).val = r.val := h0
    omega

/-- One head's rows stored over earlier stores. -/
theorem canon_head (h : Fin 16) (w : Vec Ideal S8x128 e) (L : List (View.Piece (Elt Ideal) S128x128 e)) (r x : Fin 128) :
    View.canon (⟨headRect h, w⟩ :: L) (ix2 r x) = if r.val / 8 = h.val then w (ix2 (⟨r.val % 8, by omega⟩ : Fin 8) x) else View.canon L (ix2 r x) := by
  split
  · rename_i hh
    have e : (ix2 r x : S128x128.Idx) = (headRect h).emb (ix2 (⟨r.val % 8, by omega⟩ : Fin 8) x) := by
      rw [show (headRect h).emb (ix2 (⟨r.val % 8, by omega⟩ : Fin 8) x) = _ from headRect_idx h _ x]
      congr 1
      apply Fin.ext
      show r.val = 8 * h.val + r.val % 8
      omega
    rw [e]
    exact View.canon_cons_emb (headRect h) w L _
  · rename_i hh
    refine View.canon_cons_of_not_mem ⟨headRect h, w⟩ L fun hm => hh ?_
    obtain ⟨j, hj⟩ := (headRect h).exists_idx_of_mem hm
    have h0 := congrArg (fun z : S128x128.Idx => (z 0).val) hj
    have h1 : 8 * h.val + 1 * (j 0).val = r.val := h0
    have h2 : (j 0).val < 8 := (j 0).isLt
    omega

/-- The eight sequences' stores, the last first. -/
def seqs (w : Fin 8 → Vec Ideal S16x128 e) (L : List (View.Piece (Elt Ideal) S128x128 e)) : List (View.Piece (Elt Ideal) S128x128 e) :=
  ⟨seqRect 7, w 7⟩ :: ⟨seqRect 6, w 6⟩ :: ⟨seqRect 5, w 5⟩ :: ⟨seqRect 4, w 4⟩ :: ⟨seqRect 3, w 3⟩ :: ⟨seqRect 2, w 2⟩ :: ⟨seqRect 1, w 1⟩
    :: ⟨seqRect 0, w 0⟩ :: L

/-- The sixteen heads' stores, the last first. -/
def heads (w : Fin 16 → Vec Ideal S8x128 e) : List (View.Piece (Elt Ideal) S128x128 e) :=
  [⟨headRect 15, w 15⟩, ⟨headRect 14, w 14⟩, ⟨headRect 13, w 13⟩, ⟨headRect 12, w 12⟩, ⟨headRect 11, w 11⟩, ⟨headRect 10, w 10⟩, ⟨headRect 9, w 9⟩,
    ⟨headRect 8, w 8⟩, ⟨headRect 7, w 7⟩, ⟨headRect 6, w 6⟩, ⟨headRect 5, w 5⟩, ⟨headRect 4, w 4⟩, ⟨headRect 3, w 3⟩, ⟨headRect 2, w 2⟩,
    ⟨headRect 1, w 1⟩, ⟨headRect 0, w 0⟩]

/-- After the eight sequences' stores a row holds its sequence's. -/
theorem canon_seqs (w : Fin 8 → Vec Ideal S16x128 e) (L : List (View.Piece (Elt Ideal) S128x128 e)) (r x : Fin 128) :
    View.canon (seqs w L) (ix2 r x) = w ⟨r.val % 8, by omega⟩ (ix2 (⟨r.val / 8, by omega⟩ : Fin 16) x) := by
  unfold seqs
  simp only [canon_seq]
  have hb : r.val % 8 = (⟨r.val % 8, by omega⟩ : Fin 8).val := rfl
  generalize (⟨r.val % 8, _⟩ : Fin 8) = b at hb ⊢
  rw [hb]
  fin_cases b <;> rfl

/-- After the sixteen heads' stores a row holds its head's. -/
theorem canon_heads (w : Fin 16 → Vec Ideal S8x128 e) (r x : Fin 128) :
    View.canon (heads w) (ix2 r x) = w ⟨r.val / 8, by omega⟩ (ix2 (⟨r.val % 8, by omega⟩ : Fin 8) x) := by
  unfold heads
  simp only [canon_head]
  have hb : r.val / 8 = (⟨r.val / 8, by omega⟩ : Fin 16).val := rfl
  generalize (⟨r.val / 8, _⟩ : Fin 16) = b at hb ⊢
  rw [hb]
  fin_cases b <;> rfl

/-- A load of one sequence's rows reads them off the stores. -/
theorem readCov_seq {sp : Space} (v : View sig .tc sp S128x128 e) (L : List (View.Piece (Elt Ideal) S128x128 e)) (b : Fin 8) :
    v.readCov L (seqRect b).toLoadRect = rows b (View.canon L) := View.readCov_eq_canon' v L _

/-- A load of one sequence's rows does not see another's store. -/
theorem rows_skip (b b' : Fin 8) (w : Vec Ideal S16x128 e) (L : List (View.Piece (Elt Ideal) S128x128 e)) (h : b ≠ b') :
    rows b (View.canon (⟨seqRect b', w⟩ :: L)) = rows b (View.canon L) := by
  have key : ∀ (y : Fin 16) (x : Fin 128), rows b (View.canon (⟨seqRect b', w⟩ :: L)) (ix2 y x) = rows b (View.canon L) (ix2 y x) := fun y x => by
    have h1 := Fin.val_ne_of_ne h
    have h2 := b.isLt
    refine (rows_apply b _ y x).trans (((canon_seq b' w L _ _).trans (if_neg ?_)).trans (rows_apply b _ y x).symm)
    show ¬(8 * y.val + b.val) % 8 = b'.val
    omega
  funext j
  exact (congrArg _ (eq_ix2 j)).trans ((key _ _).trans (congrArg _ (eq_ix2 j).symm))

/-- A load of a whole buffer reads the stores. -/
theorem readCov_full {s : Shape} {sp : Space} (v : View sig .tc sp s e) (L : List (View.Piece (Elt Ideal) s e)) (B : LoadRect s) (hs : B.size = s.size)
    (h0 : ∀ a, B.off a = 0) (h1 : ∀ a, B.stride a = 1) (i : B.shape.Idx) (j : s.Idx) (hij : ∀ a, (i a).val = (j a).val) : v.readCov L B i = View.canon L j := by
  rw [View.readCov_eq_canon']
  refine congrArg (View.canon L) (funext fun a => Fin.ext ?_)
  rw [LoadRect.idx_apply, h0, h1, hij]
  omega

/-- A load of a memref that is a whole buffer reads the value at the load's indices. -/
theorem readAt_whole {sp : Space} {s : Shape} {m : Memref sig .tc sp s e} (h : m.IsWhole) (X : s.Idx → Elt Ideal e) (B : LoadRect s) :
    View.readAt (Elt Ideal) m.view B (h.unread X) = fun x => X (B.idx x) :=
  funext fun x => congrFun (h.read_unread X) _

end Cert.KernelIdeal.Value

end
-- ==== Proof.Value.First.lean ====
/- What the first point's stores leave in the scratch, before its block of the prefix: every sequence's rows after its tail. -/
module

public import proofs.«01_k».proof.Proof.Ideal.Frame
public import proofs.«01_k».proof.Proof.Value.Tail
public import proofs.«01_k».proof.Proof.Value.Rows

@[expose] public section

set_option maxRecDepth 16384

noncomputable section

namespace Cert.KernelIdeal.Value

open Cert.KernelIdeal Cert.KernelIdeal.Gen Cert.KernelIdeal.Hand Cert.KernelIdeal.Hand.kernelRun0_A.sl Idealize.ShloMosaic Idealize.ShloMosaic.TcCoe

/-- A load: the part of `X` at the offsets `o`, of the sizes `sz`. -/
def ld {s : Shape} {e : EltTy} (o sz : Fin s.rank → ℕ) (h : ∀ a, o a + sz a ≤ s.size a) (X : s.Idx → Elt Ideal e) : (Rect.unit o sz h).shape.Idx → Elt Ideal e :=
  fun j => X ((Rect.unit o sz h).idx j)

/-- A load of a memref that is a whole buffer reads the part of its value. -/
theorem readAt_ld {sp : Space} {s : Shape} {e : EltTy} {m : Memref sig .tc sp s e} (hm : m.IsWhole) (X : s.Idx → Elt Ideal e) (o sz : Fin s.rank → ℕ)
    (h : ∀ a, o a + sz a ≤ s.size a) : View.readAt (Elt Ideal) m.view (Rect.unit o sz h).toLoadRect (hm.unread X) = ld o sz h X :=
  readAt_whole hm X _

/-- The part of a buffer of 128 rows that a load reads. -/
def rowsOf {e : EltTy} (B : LoadRect S128x128) (P : Vec Ideal S128x128 e) : B.shape.Idx → Elt Ideal e := fun j => P (B.idx j)

/-- A read of rectangle `B` from a buffer whose every cell is covered by writes is that rectangle of the buffer they leave. -/
theorem readCov_rowsOf {e : EltTy} {sp : Space} (v : View sig .tc sp S128x128 e) (L : List (View.Piece (Elt Ideal) S128x128 e)) (B : LoadRect S128x128) :
    v.readCov L B = rowsOf B (View.canon L) := View.readCov_eq_canon' v L _

/-- One sequence's rows are read through that sequence's rectangle. -/
theorem rows_rowsOf {e : EltTy} (b : Fin 8) (P : Vec Ideal S128x128 e) : rows b P = rowsOf (seqRect b).toLoadRect P := rfl

/-- A load of one sequence's rows does not see another's store. -/
theorem readCov_other {e : EltTy} {sp : Space} (v : View sig .tc sp S128x128 e) (L : List (View.Piece (Elt Ideal) S128x128 e)) (n n' : ℕ) (h) (h') (p)
    (w : Vec Ideal S16x128 e) (hn : n % 8 ≠ n' % 8) :
    v.readCov (⟨Rect.mk (LoadRect.mk ![n', 0] ![16, 128] ![8, 1] h') p, w⟩ :: L) (LoadRect.mk ![n, 0] ![16, 128] ![8, 1] h)
      = v.readCov L (LoadRect.mk ![n, 0] ![16, 128] ![8, 1] h) := by
  rw [View.readCov_eq_canon', View.readCov_eq_canon']
  funext j
  refine View.canon_cons_of_not_mem ⟨Rect.mk (LoadRect.mk ![n', 0] ![16, 128] ![8, 1] h') p, w⟩ L fun hm => hn ?_
  obtain ⟨k, hk⟩ := LoadRect.exists_idx_of_mem _ hm
  have h0 : n' + 8 * (k 0).val = n + 8 * (j 0).val := congrArg (fun z : S128x128.Idx => (z 0).val) hk
  omega

/-- A concatenation of two pieces, piece by piece. -/
@[local congr] theorem concat_congr {α : Type} {t s s' : Shape} {a : Fin t.rank} {v w : s.Idx → α} {v' w' : s'.Idx → α}
    {h : Shape.Concatenates [s, s'] t a} (e : v = w) (e' : v' = w') :
    concatenate t a [⟨s, v⟩, ⟨s', v'⟩] h = concatenate t a [⟨s, w⟩, ⟨s', w'⟩] h := by subst e; subst e'; rfl

/-- Head `h`'s queries: eight sequences, 128 features. -/
def ldQ (h : Fin 16) (x1 : Vec Ideal S8x2048 .bf16) : Vec Ideal S8x128 .bf16 :=
  ld (s := S8x2048) ![0, 128 * h.val] S8x128.size (by
    have := h.isLt
    intro a
    fin_cases a
    · show 0 + 8 ≤ 8; omega
    · show 128 * h.val + 128 ≤ 2048; omega) x1

/-- Key-value head `n`'s new keys or values: eight sequences, 128 features. -/
def ldN (n : Fin 2) (x : Vec Ideal S8x2x128 .bf16) : Vec Ideal S8x1x128 .bf16 :=
  ld (s := S8x2x128) ![0, n.val, 0] S8x1x128.size (by
    have := n.isLt
    intro a
    fin_cases a
    · show 0 + 8 ≤ 8; omega
    · show n.val + 1 ≤ 2; omega
    · show 0 + 128 ≤ 128; omega) x

/-- Key-value head `n`'s scales of the prefix's keys. -/
def ldS (n : Fin 2) (x : Vec Ideal S2x128 .f32) : Vec Ideal S1x128 .f32 :=
  ld (s := S2x128) ![n.val, 0] S1x128.size (by
    have := n.isLt
    intro a
    fin_cases a
    · show n.val + 1 ≤ 2; omega
    · show 0 + 128 ≤ 128; omega) x

/-- Sequence `b`'s tail of keys or values, key-value head `n`. -/
def ldK (b : Fin 8) (n : Fin 2) (x : Vec Ideal S8x2x1024x128 .fp8e4m3) : Vec Ideal S1x1x1024x128 .fp8e4m3 :=
  ld (s := S8x2x1024x128) ![b.val, n.val, 0, 0] S1x1x1024x128.size (by
    have := b.isLt
    have := n.isLt
    intro a
    fin_cases a
    · show b.val + 1 ≤ 8; omega
    · show n.val + 1 ≤ 2; omega
    · show 0 + 1024 ≤ 1024; omega
    · show 0 + 128 ≤ 128; omega) x

/-- Sequence `b`'s scales of the tail's keys or values, key-value head `n`. -/
def ldT (b : Fin 8) (n : Fin 2) (x : Vec Ideal S8x2x1024 .f32) : Vec Ideal S1x1x1024 .f32 :=
  ld (s := S8x2x1024) ![b.val, n.val, 0] S1x1x1024.size (by
    have := b.isLt
    have := n.isLt
    intro a
    fin_cases a
    · show b.val + 1 ≤ 8; omega
    · show n.val + 1 ≤ 2; omega
    · show 0 + 1024 ≤ 1024; omega) x

/-- Sequence `b`'s length of tail. -/
def ldLen (b : Fin 8) (x : Vec Ideal S8 .i32) : BitVec 32 :=
  ld (s := S8) ![b.val] S1.size (by
    have := b.isLt
    intro a
    fin_cases a
    show b.val + 1 ≤ 8; omega) x (Shape.Idx.first (show 0 < S1.numel by decide))

/-- The key-value head of a query head. -/
def kvh (h : Fin 16) : Fin 2 := ⟨h.val / 8, by omega⟩

/-- The queries, one row per sequence and head. -/
def initQ (x1 : Vec Ideal S8x2048 .bf16) : List (View.Piece (Elt Ideal) S128x128 .f32) := heads fun h => k0_pay22 (ldQ h x1)
/-- The first maxima: the new position's scores. -/
def initM (x1 : Vec Ideal S8x2048 .bf16) (x2 : Vec Ideal S8x2x128 .bf16) : List (View.Piece (Elt Ideal) S128x128 .f32) :=
  heads fun h => k0_pay24 (k0_pay13 (ldN (kvh h) x2)) (ldQ h x1)
/-- The first sums of weights: one, in lane 0. -/
def initL : List (View.Piece (Elt Ideal) S128x128 .f32) := heads fun _ => k0_pay123 (F := Ideal)
/-- The first weighted sums of values: the new values. -/
def initA (x3 : Vec Ideal S8x2x128 .bf16) : List (View.Piece (Elt Ideal) S128x128 .f32) := heads fun h => k0_pay20 (k0_pay14 (ldN (kvh h) x3))

variable (c : Dev nD) (i : grid0.Coords)
  (arg1 : Memref sig .tc .smem S8 .i32) (harg1 : arg1.IsWhole) (arg2 : Memref sig .tc .vmem S8x2048 .bf16) (harg2 : arg2.IsWhole)
  (arg3 : Memref sig .tc .vmem S8x2x128 .bf16) (harg3 : arg3.IsWhole) (arg4 : Memref sig .tc .vmem S8x2x128 .bf16) (harg4 : arg4.IsWhole)
  (arg5 : Memref sig .tc .vmem S2x128 .f32) (harg5 : arg5.IsWhole) (arg6 : Memref sig .tc .vmem S2x4096 .f32) (harg6 : arg6.IsWhole)
  (arg7 : Memref sig .tc .vmem S8x2x1024x128 .fp8e4m3) (harg7 : arg7.IsWhole)
  (arg8 : Memref sig .tc .vmem S8x2x1024x128 .fp8e4m3) (harg8 : arg8.IsWhole) (arg9 : Memref sig .tc .vmem S8x2x1024 .f32) (harg9 : arg9.IsWhole)
  (arg10 : Memref sig .tc .vmem S8x2x1024 .f32) (harg10 : arg10.IsWhole) (arg11 : Memref sig .tc .vmem S2x4096x128 .fp8e4m3) (harg11 : arg11.IsWhole)
  (arg12 : Memref sig .tc .vmem S2x4096x128 .fp8e4m3) (harg12 : arg12.IsWhole) (arg13 : Memref sig .tc .vmem S8x2048 .bf16) (harg13 : arg13.IsWhole)
  (arg14 : Memref sig .tc .vmem S128x128 .f32) (harg14 : arg14.IsWhole) (arg15 : Memref sig .tc .vmem S128x256 .bf16) (harg15 : arg15.IsWhole)
  (arg16 : Memref sig .tc .vmem S128x128 .f32) (harg16 : arg16.IsWhole) (arg17 : Memref sig .tc .vmem S128x128 .f32) (harg17 : arg17.IsWhole)
  (arg18 : Memref sig .tc .vmem S128x128 .f32) (harg18 : arg18.IsWhole)
  (hc0 : cond0_0 i) (hc1 : ¬cond0_1 i)
  (x0 : Vec Ideal S8 .i32) (x1 : Vec Ideal S8x2048 .bf16) (x2 : Vec Ideal S8x2x128 .bf16) (x3 : Vec Ideal S8x2x128 .bf16) (x4 : Vec Ideal S2x128 .f32)
  (x5 : Vec Ideal S2x4096 .f32) (x6 : Vec Ideal S8x2x1024x128 .fp8e4m3) (x7 : Vec Ideal S8x2x1024x128 .fp8e4m3) (x8 : Vec Ideal S8x2x1024 .f32)
  (x9 : Vec Ideal S8x2x1024 .f32) (x10 : Vec Ideal S2x4096x128 .fp8e4m3) (x11 : Vec Ideal S2x4096x128 .fp8e4m3)

/-- The writes of the first point to the query buffer. -/
theorem pieces_Q : HS0_16 (F := Ideal) c arg2 harg2 x1 = initQ x1 := by
  simp only [HS0_16, r_21, r_5, readAt_ld]
  rfl

/-- The first point's writes of the new position's scores to the buffer of maxima. -/
theorem pieces_M : HS2_16 (F := Ideal) c arg2 harg2 arg3 harg3 x1 x2 = initM x1 x2 := by
  simp only [HS2_16, r_16, r_26, r_24, r_21, r_1, r_11, r_7, r_5, readAt_ld]
  rfl

/-- The first point's writes of the new position's weight to the buffer of sums. -/
theorem pieces_L : HS3_16 (F := Ideal) = initL := by
  simp only [HS3_16, cst_166]
  rfl

/-- The first point's writes of the new values to the buffer of results. -/
theorem pieces_A : HS4_16 (F := Ideal) c arg4 harg4 x3 = initA x3 := by
  simp only [HS4_16, v644, r_17, r_2, readAt_ld]
  rfl

/-- The stores of the maxima: every sequence's rows after its tail, over the first ones. -/
theorem stores_M : HS2_24 (F := Ideal) c arg1 harg1 arg2 harg2 arg3 harg3 arg7 harg7 arg9 harg9 arg14 arg16 x0 x1 x2 x6 x8
    = seqs (fun b => tailM (rows b (View.canon (initQ x1))) (ldK b 0 x6) (ldK b 1 x6) (ldLen b x0) (ldT b 0 x8) (ldT b 1 x8) (rows b (View.canon (initM x1 x2)))) (initM x1 x2) := by
  simp (disch := decide) only [HS2_24, r_77, HS2_23, r_74, r_75, r_76, v1386, r_69, HS2_22, v1344, r_72, v1252, v1257, r_67, v1287, v1244, HS2_21, v1250, v1251, v1254, v1256,
    r_61, v1145, HS2_20, v1247, v655, v1248, r_58, r_59, r_60, v1188, r_51, v1046, HS2_19, v1246, cst_262, r_56, v1146, v1054, v1059, r_49, v1089,
    v994, v947, HS2_18, v1245, v1052, v1053, v1056, v1058, v990, v993, r_39, v848, HS2_17, v1049, v1050, v992, v867, v670, r_38, v891, v796, v749,
    v1048, v991, v856, v861, cst_284, v792, v795, r_30, v1047, v989, v854, v855, v858, v860, v794, v669, v673, v674, v693, r_47, v988, v851, v852,
    v793, v658, v663, v672, v950, v951, r_44, r_46, v986, v987, v850, r_37, v656, v657, v660, v662, r_29, v949, r_48, v985, cst_446, v849, v757,
    r_35, v653, v654, v948, cst_445, v755, v756, v652, v752, v753, v651, v751, v750, pieces_Q, pieces_M, pieces_L, pieces_A,
    ↓readCov_other]
  simp only [readCov_rowsOf, readAt_ld, pieces_Q, pieces_M, pieces_L, pieces_A]
  simp only [seqs, rows_rowsOf, ldK, ldT, ldLen, Fin.coe_ofNat_eq_mod, Nat.reduceMod, Fin.val_zero, Fin.val_one]
  rfl

/-- The stores of the sums of weights: every sequence's rows after its tail, over the first ones. -/
theorem stores_L : HS3_24 (F := Ideal) c arg1 harg1 arg2 harg2 arg3 harg3 arg7 harg7 arg9 harg9 arg14 arg16 arg17 x0 x1 x2 x6 x8
    = seqs (fun b => tailL (rows b (View.canon (initQ x1))) (ldK b 0 x6) (ldK b 1 x6) (ldLen b x0) (ldT b 0 x8) (ldT b 1 x8) (rows b (View.canon (initM x1 x2))) (rows b (View.canon initL))) initL := by
  simp (disch := decide) only [HS3_24, r_80, HS3_23, r_74, r_75, r_76, v1386, v1397, v1340, HS3_22, v1344, r_72, HS2_23, v1315, v1241, HS3_21, r_69, HS2_22, v1313, v1314, r_63,
    v1142, HS3_20, v1252, v1257, r_67, v1287, v1244, HS2_21, v1311, v1312, r_71, r_58, r_59, r_60, v1188, v1199, v1117, v1043, HS3_19, v1250, v1251,
    v1254, v1256, r_61, v1145, HS2_20, v1309, v1310, r_56, v1146, v1115, v1116, v1018, v944, HS3_18, v1247, v655, v1248, r_51, v1046, HS2_19, v1307,
    v1308, v1113, v1114, r_53, v1016, v1017, v919, v845, HS3_17, v1246, cst_262, v1054, v1059, r_49, v1089, v994, v947, HS2_18, v1305, v1306, v1111,
    v1112, v1014, v1015, v1000, v917, v918, v820, v746, v1245, v1052, v1053, v1056, v1058, v990, v993, r_39, v848, HS2_17, v1303, v1304, v1109,
    v1110, v1012, v1013, v999, v915, v916, r_41, v818, v819, v721, v1049, v1050, v992, v867, v670, r_38, v891, v796, v749, v1301, v1302, v1107,
    v1108, v1010, v1011, v989, v998, v913, v914, v816, v817, v802, r_33, r_34, v1048, v991, v856, v861, cst_284, v792, v795, r_30, v1299, v1300,
    v1105, v1106, v1008, v1009, r_47, v988, v997, r_42, r_43, v814, v815, v801, v669, v673, v674, v693, v704, v1047, v854, v855, v858, v860, v794,
    v1298, r_70, r_54, r_55, v1006, v1007, v950, v951, r_44, r_46, v986, v987, v902, v812, v813, r_37, v800, v658, v663, v672, v851, v852, v793,
    v1100, v1004, v1005, v949, r_48, v985, cst_446, v810, v811, v757, r_35, v799, v656, v657, v660, v662, r_29, v850, v1002, v1003, v948, cst_445,
    v808, v809, v755, v756, v653, v654, v849, v1001, v996, v806, v807, v752, v753, v652, v995, v804, v805, v751, v651, v803, v798, v750, v797, pieces_Q, pieces_M, pieces_L, pieces_A,
    ↓readCov_other]
  simp only [readCov_rowsOf, readAt_ld, pieces_Q, pieces_M, pieces_L, pieces_A]
  simp only [seqs, rows_rowsOf, ldK, ldT, ldLen, Fin.coe_ofNat_eq_mod, Nat.reduceMod, Fin.val_zero, Fin.val_one]
  rfl

/-- The stores of the weighted sums of values: every sequence's rows after its tail, over the first ones. -/
theorem stores_A : HS4_24 (F := Ideal) c arg1 harg1 arg2 harg2 arg3 harg3 arg4 harg4 arg7 harg7 arg8 harg8 arg9 harg9 arg10 harg10 arg14 arg16 arg18 x0 x1 x2 x3 x6 x7 x8 x9
    = seqs (fun b => tailA (rows b (View.canon (initQ x1))) (ldK b 0 x6) (ldK b 1 x6) (ldK b 0 x7) (ldK b 1 x7) (ldLen b x0) (ldT b 0 x8) (ldT b 1 x8)
        (ldT b 0 x9) (ldT b 1 x9) (rows b (View.canon (initM x1 x2))) (rows b (View.canon (initA x3)))) (initA x3) := by
  simp (disch := decide) only [HS4_24, r_73, r_78, r_79, r_81, v1431, HS4_23, r_74, r_75, r_76, v1386, v1337, HS4_22, v1344, r_72, HS2_23, v1334, v1238, HS4_21, r_69, HS2_22,
    v1333, v1331, v1235, v1139, HS4_20, v1252, v1257, r_67, v1287, v1244, HS2_21, v1332, r_70, v1329, v1330, v1234, v1232, v1136, v1040, HS4_19,
    v1250, v1251, v1254, v1256, r_61, v1145, HS2_20, v1328, v1233, r_62, v1230, v1231, v1135, v1133, v1037, v941, HS4_18, v1247, v655, v1248, r_58,
    r_59, r_60, v1188, r_51, v1046, HS2_19, v1327, r_68, cst_307, v1229, v1134, r_52, v1131, v1132, v1036, v1034, v938, v842, HS4_17, v1246, cst_262,
    r_56, v1146, v1054, v1059, r_49, v1089, v994, v947, HS2_18, v1326, v1228, r_57, v1130, v1035, v996, v1032, v1033, v937, v935, v839, v743, v1245,
    v1052, v1053, v1056, v1058, v990, v993, r_39, v848, HS2_17, v1320, v1325, v1227, v1129, r_50, v995, v1031, v936, r_40, v933, v934, v838, v836,
    v740, v1049, v1050, v992, v867, v670, r_38, v891, v796, v749, v1316, v1319, v1321, v1324, r_64, v1226, v1128, v1061, v1030, r_45, v932, v837,
    v798, v834, v835, v739, v737, v1048, v991, v856, v861, cst_284, v792, v795, r_30, r_71, v1318, v1323, r_65, v1225, v1122, v1127, v1029, v931,
    v866, v797, v833, v738, r_31, v735, v736, v1047, v989, v854, v855, v858, v860, v794, v669, v673, v674, v693, r_66, v1118, v1121, v1123, v1126,
    v1023, v1028, v930, v863, v865, v832, r_36, v734, r_47, v988, v851, v852, v793, v658, v663, v672, r_53, v1120, v1125, v1019, v1022, v1024, v1027,
    v924, v929, v831, v733, v668, v950, v951, r_44, r_46, v986, v987, v850, r_37, v656, v657, v660, v662, r_29, v1000, v1021, v1026, v920, v923,
    v925, v928, v825, v830, v732, v665, v667, v949, r_48, v985, cst_446, v849, v757, r_35, v653, v654, v999, r_41, v922, v927, v821, v824, v826,
    v829, v726, v731, v948, cst_445, v755, v756, v652, v998, v802, v823, v828, v722, v725, v727, v730, v752, v753, v651, v997, v801, r_32, v724,
    v729, v751, v800, v750, v799, pieces_Q, pieces_M, pieces_L, pieces_A,
    ↓readCov_other]
  simp only [readCov_rowsOf, readAt_ld, pieces_Q, pieces_M, pieces_L, pieces_A]
  simp only [seqs, rows_rowsOf, ldK, ldT, ldLen, Fin.coe_ofNat_eq_mod, Nat.reduceMod, Fin.val_zero, Fin.val_one]
  rfl

end Cert.KernelIdeal.Value

end
-- ==== Proof.Value.Points.lean ====
/- What a point leaves in the scratch and in the output block, as the step of the running softmax over its block of the prefix. -/
module

public import proofs.«01_k».proof.Proof.Value.First

@[expose] public section

set_option maxRecDepth 16384

noncomputable section

namespace Cert.KernelIdeal.Value

open Cert.KernelIdeal Cert.KernelIdeal.Gen Cert.KernelIdeal.Hand Cert.KernelIdeal.Hand.kernelRun0_A.sl Idealize.ShloMosaic Idealize.ShloMosaic.TcCoe

/-- Key-value head `n`'s block of the prefix's keys or values. -/
def ldP (n : Fin 2) (x : Vec Ideal S2x4096x128 .fp8e4m3) : Vec Ideal S1x4096x128 .fp8e4m3 :=
  ld (s := S2x4096x128) ![n.val, 0, 0] S1x4096x128.size (by
    have := n.isLt
    intro a
    fin_cases a
    · show n.val + 1 ≤ 2; omega
    · show 0 + 4096 ≤ 4096; omega
    · show 0 + 128 ≤ 128; omega) x

/-- Key-value head `n`'s block of scales of the prefix's values. -/
def ldV (n : Fin 2) (x : Vec Ideal S2x4096 .f32) : Vec Ideal S1x4096 .f32 :=
  ld (s := S2x4096) ![n.val, 0] S1x4096.size (by
    have := n.isLt
    intro a
    fin_cases a
    · show n.val + 1 ≤ 2; omega
    · show 0 + 4096 ≤ 4096; omega) x

/-- A load of a whole buffer of maxima, sums or results is the buffer. -/
theorem ld_all {e : EltTy} (h) (X : Vec Ideal S128x128 e) : ld (s := S128x128) ![0, 0] ![128, 128] h X = X := View.ld_unit_lit h X (by decide)

/-- A load of the whole buffer of scaled queries is the buffer. -/
theorem ld_all' {e : EltTy} (h) (X : Vec Ideal S128x256 e) : ld (s := S128x256) ![0, 0] ![128, 256] h X = X := View.ld_unit_lit h X (by decide)

/-- A load of a whole buffer of 128 rows reads the stores. -/
theorem readCov_all {e : EltTy} {s : Shape} {sp : Space} (v : View sig .tc sp s e) (L : List (View.Piece (Elt Ideal) s e)) (off : Fin s.rank → ℕ)
    (h) (h0 : ∀ a, off a = 0) : v.readCov L (Rect.unit off s.size h).toLoadRect = View.canon L := by
  rw [View.readCov_eq_canon']
  funext j
  refine congrArg (View.canon L) (funext fun a => Fin.ext ?_)
  show off a + 1 * (j a).val = (j a).val
  rw [h0]; omega

/-- The eight rows of each query head of the weighted sums over the sums of weights, as the kernel slices them. -/
def outPart (L A : Vec Ideal S128x128 .f32) : Fin 16 → Vec Ideal S8x128 .bf16 :=
  ![k0_pay229 L A, k0_pay230 L A, k0_pay231 L A, k0_pay232 L A, k0_pay233 L A, k0_pay234 L A, k0_pay235 L A, k0_pay236 L A,
    k0_pay4 (k0_pay228 L A), k0_pay5 (k0_pay228 L A), k0_pay6 (k0_pay228 L A), k0_pay7 (k0_pay228 L A), k0_pay8 (k0_pay228 L A), k0_pay9 (k0_pay228 L A), k0_pay10 (k0_pay228 L A), k0_pay11 (k0_pay228 L A)]

/-- A head's part of the result, in coordinates. -/
theorem outPart_apply (L A : Vec Ideal S128x128 .f32) (h : Fin 16) (y : Fin 8) (x : Fin 128) :
    outPart L A h (ix2 y x) = k0_pay228 L A (ix2 (⟨8 * h.val + y.val, by omega⟩ : Fin 128) x) := by
  unfold outPart k0_pay229 k0_pay230 k0_pay231 k0_pay232 k0_pay233 k0_pay234 k0_pay235 k0_pay236
  generalize k0_pay228 (F := Ideal) L A = P
  fin_cases h
  all_goals
    dsimp only [Matrix.cons_val]
    pointwise [k0_pay4, k0_pay5, k0_pay6, k0_pay7, k0_pay8, k0_pay9, k0_pay10, k0_pay11]

/-- The 128 columns of query head `h`. -/
abbrev colRect (h : Fin 16) : Rect S8x2048 :=
  Rect.unit ![0, 128 * h.val] S8x128.size (by
    have := h.isLt
    intro a
    fin_cases a
    · show 0 + 8 ≤ 8; omega
    · show 128 * h.val + 128 ≤ 2048; omega)

/-- One head's columns stored over earlier stores. -/
theorem canon_col {e : EltTy} (h : Fin 16) (w : Vec Ideal S8x128 e) (L : List (View.Piece (Elt Ideal) S8x2048 e)) (y : Fin 8) (x : Fin 2048) :
    View.canon (⟨colRect h, w⟩ :: L) (ix2 y x) = if x.val / 128 = h.val then w (ix2 y (⟨x.val % 128, by omega⟩ : Fin 128)) else View.canon L (ix2 y x) := by
  split
  · rename_i hh
    have e : (ix2 y x : S8x2048.Idx) = (colRect h).emb (ix2 y (⟨x.val % 128, by omega⟩ : Fin 128)) := by
      funext a
      apply Fin.ext
      fin_cases a
      · show y.val = 0 + 1 * y.val; omega
      · show x.val = 128 * h.val + 1 * (x.val % 128); omega
    rw [e]
    exact View.canon_cons_emb (colRect h) w L _
  · rename_i hh
    refine View.canon_cons_of_not_mem ⟨colRect h, w⟩ L fun hm => hh ?_
    obtain ⟨j, hj⟩ := (colRect h).exists_idx_of_mem hm
    have h0 := congrArg (fun z : S8x2048.Idx => (z 1).val) hj
    have h1 : 128 * h.val + 1 * (j 1).val = x.val := h0
    have h2 : (j 1).val < 128 := (j 1).isLt
    omega

/-- The sixteen heads' stores into the output block, the last first. -/
def cols {e : EltTy} (w : Fin 16 → Vec Ideal S8x128 e) : List (View.Piece (Elt Ideal) S8x2048 e) :=
  [⟨colRect 15, w 15⟩, ⟨colRect 14, w 14⟩, ⟨colRect 13, w 13⟩, ⟨colRect 12, w 12⟩,
    ⟨colRect 11, w 11⟩, ⟨colRect 10, w 10⟩, ⟨colRect 9, w 9⟩, ⟨colRect 8, w 8⟩,
    ⟨colRect 7, w 7⟩, ⟨colRect 6, w 6⟩, ⟨colRect 5, w 5⟩, ⟨colRect 4, w 4⟩,
    ⟨colRect 3, w 3⟩, ⟨colRect 2, w 2⟩, ⟨colRect 1, w 1⟩, ⟨colRect 0, w 0⟩]

/-- The result after the sixteen writes of one head each, in coordinates. -/
theorem canon_cols {e : EltTy} (w : Fin 16 → Vec Ideal S8x128 e) (y : Fin 8) (x : Fin 2048) :
    View.canon (cols w) (ix2 y x) = w ⟨x.val / 128, by omega⟩ (ix2 y (⟨x.val % 128, by omega⟩ : Fin 128)) := by
  unfold cols
  simp only [canon_col]
  have hb : x.val / 128 = (⟨x.val / 128, by omega⟩ : Fin 16).val := rfl
  generalize (⟨x.val / 128, _⟩ : Fin 16) = b at hb ⊢
  rw [hb]
  fin_cases b <;> rfl

variable (c : Dev nD) (i : grid0.Coords)
  (arg1 : Memref sig .tc .smem S8 .i32) (harg1 : arg1.IsWhole) (arg2 : Memref sig .tc .vmem S8x2048 .bf16) (harg2 : arg2.IsWhole)
  (arg3 : Memref sig .tc .vmem S8x2x128 .bf16) (harg3 : arg3.IsWhole) (arg4 : Memref sig .tc .vmem S8x2x128 .bf16) (harg4 : arg4.IsWhole)
  (arg5 : Memref sig .tc .vmem S2x128 .f32) (harg5 : arg5.IsWhole) (arg6 : Memref sig .tc .vmem S2x4096 .f32) (harg6 : arg6.IsWhole)
  (arg7 : Memref sig .tc .vmem S8x2x1024x128 .fp8e4m3) (harg7 : arg7.IsWhole)
  (arg8 : Memref sig .tc .vmem S8x2x1024x128 .fp8e4m3) (harg8 : arg8.IsWhole) (arg9 : Memref sig .tc .vmem S8x2x1024 .f32) (harg9 : arg9.IsWhole)
  (arg10 : Memref sig .tc .vmem S8x2x1024 .f32) (harg10 : arg10.IsWhole) (arg11 : Memref sig .tc .vmem S2x4096x128 .fp8e4m3) (harg11 : arg11.IsWhole)
  (arg12 : Memref sig .tc .vmem S2x4096x128 .fp8e4m3) (harg12 : arg12.IsWhole) (arg13 : Memref sig .tc .vmem S8x2048 .bf16) (harg13 : arg13.IsWhole)
  (arg14 : Memref sig .tc .vmem S128x128 .f32) (harg14 : arg14.IsWhole) (arg15 : Memref sig .tc .vmem S128x256 .bf16) (harg15 : arg15.IsWhole)
  (arg16 : Memref sig .tc .vmem S128x128 .f32) (harg16 : arg16.IsWhole) (arg17 : Memref sig .tc .vmem S128x128 .f32) (harg17 : arg17.IsWhole)
  (arg18 : Memref sig .tc .vmem S128x128 .f32) (harg18 : arg18.IsWhole)
  (hc0 : cond0_0 i) (hc1 : ¬cond0_1 i)
  (x0 : Vec Ideal S8 .i32) (x1 : Vec Ideal S8x2048 .bf16) (x2 : Vec Ideal S8x2x128 .bf16) (x3 : Vec Ideal S8x2x128 .bf16) (x4 : Vec Ideal S2x128 .f32)
  (x5 : Vec Ideal S2x4096 .f32) (x6 : Vec Ideal S8x2x1024x128 .fp8e4m3) (x7 : Vec Ideal S8x2x1024x128 .fp8e4m3) (x8 : Vec Ideal S8x2x1024 .f32)
  (x9 : Vec Ideal S8x2x1024 .f32) (x10 : Vec Ideal S2x4096x128 .fp8e4m3) (x11 : Vec Ideal S2x4096x128 .fp8e4m3)

/-- The first point's load of the scaled queries reads what it has written. -/
theorem load_Q : v13 (F := Ideal) c arg2 harg2 arg5 harg5 arg15 x1 x4 = (View.canon (HS1_2 (F := Ideal) c arg2 harg2 arg5 harg5 x1 x4)) := readCov_all _ _ _ _ (by decide)

/-- The first point's load of the maxima reads what the tails have left. -/
theorem load_M : v17 (F := Ideal) c arg1 harg1 arg2 harg2 arg3 harg3 arg7 harg7 arg9 harg9 arg14 arg16 x0 x1 x2 x6 x8 = (View.canon (HS2_24 (F := Ideal) c arg1 harg1 arg2 harg2 arg3 harg3 arg7 harg7 arg9 harg9 arg14 arg16 x0 x1 x2 x6 x8)) := readCov_all _ _ _ _ (by decide)

/-- The first point's load of the sums reads what the tails have left. -/
theorem load_L : v28 (F := Ideal) c arg1 harg1 arg2 harg2 arg3 harg3 arg7 harg7 arg9 harg9 arg14 arg16 arg17 x0 x1 x2 x6 x8 = (View.canon (HS3_24 (F := Ideal) c arg1 harg1 arg2 harg2 arg3 harg3 arg7 harg7 arg9 harg9 arg14 arg16 arg17 x0 x1 x2 x6 x8)) := readCov_all _ _ _ _ (by decide)

/-- The first point's load of the results reads what the tails have left. -/
theorem load_A : v110 (F := Ideal) c arg1 harg1 arg2 harg2 arg3 harg3 arg4 harg4 arg7 harg7 arg8 harg8 arg9 harg9 arg10 harg10 arg14 arg16 arg18 x0 x1 x2 x3 x6 x7 x8 x9 = (View.canon (HS4_24 (F := Ideal) c arg1 harg1 arg2 harg2 arg3 harg3 arg4 harg4 arg7 harg7 arg8 harg8 arg9 harg9 arg10 harg10 arg14 arg16 arg18 x0 x1 x2 x3 x6 x7 x8 x9)) := readCov_all _ _ _ _ (by decide)

/-- What case A leaves in scratch 1: the queries times the prefix's key scales. -/
theorem scratchA_1 : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11
    = (View.canon (HS1_2 (F := Ideal) c arg2 harg2 arg5 harg5 x1 x4)) := by
  unfold sout0_A_1
  rw [View.read_writes_junk_eq_canon]
  rfl

/-- What case A leaves in scratch 2: the maxima. -/
theorem scratchA_2 : sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11
    = preM (ldP 0 x10) (ldP 1 x10) (View.canon (HS1_2 (F := Ideal) c arg2 harg2 arg5 harg5 x1 x4)) (View.canon (HS2_24 (F := Ideal) c arg1 harg1 arg2 harg2 arg3 harg3 arg7 harg7 arg9 harg9 arg14 arg16 x0 x1 x2 x6 x8)) := by
  unfold sout0_A_2
  rw [View.read_writes_junk_eq_canon]
  refine (View.canon_cons_unit_lit _ _ _ (by decide)).trans ?_
  simp only [r_82, r_83, r_84, r_85, r_86, r_87, r_88, r_89, load_Q, load_M, load_L, load_A, readAt_ld]
  simp only [preM, preL, preA, ldP, ldV, Fin.val_zero, Fin.val_one]

/-- What case A leaves in scratch 3: the sums of weights. -/
theorem scratchA_3 : sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11
    = preL (ldP 0 x10) (ldP 1 x10) (View.canon (HS1_2 (F := Ideal) c arg2 harg2 arg5 harg5 x1 x4)) (View.canon (HS2_24 (F := Ideal) c arg1 harg1 arg2 harg2 arg3 harg3 arg7 harg7 arg9 harg9 arg14 arg16 x0 x1 x2 x6 x8)) (View.canon (HS3_24 (F := Ideal) c arg1 harg1 arg2 harg2 arg3 harg3 arg7 harg7 arg9 harg9 arg14 arg16 arg17 x0 x1 x2 x6 x8)) := by
  unfold sout0_A_3
  rw [View.read_writes_junk_eq_canon]
  refine (View.canon_cons_unit_lit _ _ _ (by decide)).trans ?_
  simp only [r_82, r_83, r_84, r_85, r_86, r_87, r_88, r_89, load_Q, load_M, load_L, load_A, readAt_ld]
  simp only [preM, preL, preA, ldP, ldV, Fin.val_zero, Fin.val_one]

/-- What case A leaves in scratch 4: the weighted sums of values. -/
theorem scratchA_4 : sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11
    = preA (ldP 0 x10) (ldP 1 x10) (ldP 0 x11) (ldP 1 x11) (View.canon (HS1_2 (F := Ideal) c arg2 harg2 arg5 harg5 x1 x4)) (ldV 0 x5) (ldV 1 x5) (View.canon (HS2_24 (F := Ideal) c arg1 harg1 arg2 harg2 arg3 harg3 arg7 harg7 arg9 harg9 arg14 arg16 x0 x1 x2 x6 x8)) (View.canon (HS4_24 (F := Ideal) c arg1 harg1 arg2 harg2 arg3 harg3 arg4 harg4 arg7 harg7 arg8 harg8 arg9 harg9 arg10 harg10 arg14 arg16 arg18 x0 x1 x2 x3 x6 x7 x8 x9)) := by
  unfold sout0_A_4
  rw [View.read_writes_junk_eq_canon]
  refine (View.canon_cons_unit_lit _ _ _ (by decide)).trans ?_
  simp only [r_82, r_83, r_84, r_85, r_86, r_87, r_88, r_89, load_Q, load_M, load_L, load_A, readAt_ld]
  simp only [preM, preL, preA, ldP, ldV, Fin.val_zero, Fin.val_one]

variable (xs1 : Vec Ideal S128x256 .bf16) (xs2 xs3 xs4 : Vec Ideal S128x128 .f32)

variable (hb0 : ¬cond0_0 i) (hb1 : ¬cond0_1 i) (hd1 : cond0_1 i)

/-- What case B leaves in scratch 1: the queries times the prefix's key scales. -/
theorem scratchB_1 : sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hb0 hb1 x0 x1 x2 x3 x4 x5 x6 x7 x8 x9 x10 x11 xs1 xs2 xs3 xs4
    = xs1 := by
  rfl

/-- What case B leaves in scratch 2: the maxima. -/
theorem scratchB_2 : sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hb0 hb1 x0 x1 x2 x3 x4 x5 x6 x7 x8 x9 x10 x11 xs1 xs2 xs3 xs4
    = preM (ldP 0 x10) (ldP 1 x10) xs1 xs2 := by
  unfold sout0_B_2
  rw [View.read_writes_junk_eq_canon]
  refine (View.canon_cons_unit_lit _ _ _ (by decide)).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, readAt_ld, ld_all, ld_all']
  simp only [preM, preL, preA, ldP, ldV, Fin.val_zero, Fin.val_one]

/-- What case B leaves in scratch 3: the sums of weights. -/
theorem scratchB_3 : sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hb0 hb1 x0 x1 x2 x3 x4 x5 x6 x7 x8 x9 x10 x11 xs1 xs2 xs3 xs4
    = preL (ldP 0 x10) (ldP 1 x10) xs1 xs2 xs3 := by
  unfold sout0_B_3
  rw [View.read_writes_junk_eq_canon]
  refine (View.canon_cons_unit_lit _ _ _ (by decide)).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, readAt_ld, ld_all, ld_all']
  simp only [preM, preL, preA, ldP, ldV, Fin.val_zero, Fin.val_one]

/-- What case B leaves in scratch 4: the weighted sums of values. -/
theorem scratchB_4 : sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hb0 hb1 x0 x1 x2 x3 x4 x5 x6 x7 x8 x9 x10 x11 xs1 xs2 xs3 xs4
    = preA (ldP 0 x10) (ldP 1 x10) (ldP 0 x11) (ldP 1 x11) xs1 (ldV 0 x5) (ldV 1 x5) xs2 xs4 := by
  unfold sout0_B_4
  rw [View.read_writes_junk_eq_canon]
  refine (View.canon_cons_unit_lit _ _ _ (by decide)).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, readAt_ld, ld_all, ld_all']
  simp only [preM, preL, preA, ldP, ldV, Fin.val_zero, Fin.val_one]

/-- What case C leaves in scratch 1: the queries times the prefix's key scales. -/
theorem scratchC_1 : sout0_C_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hb0 hd1 x0 x1 x2 x3 x4 x5 x6 x7 x8 x9 x10 x11 xs1 xs2 xs3 xs4
    = xs1 := by
  rfl

/-- What case C leaves in scratch 2: the maxima. -/
theorem scratchC_2 : sout0_C_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hb0 hd1 x0 x1 x2 x3 x4 x5 x6 x7 x8 x9 x10 x11 xs1 xs2 xs3 xs4
    = preM (ldP 0 x10) (ldP 1 x10) xs1 xs2 := by
  unfold sout0_C_2
  rw [View.read_writes_junk_eq_canon]
  refine (View.canon_cons_unit_lit _ _ _ (by decide)).trans ?_
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, readAt_ld, ld_all, ld_all']
  simp only [preM, preL, preA, ldP, ldV, Fin.val_zero, Fin.val_one]

/-- What case C leaves in scratch 3: the sums of weights. -/
theorem scratchC_3 : sout0_C_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hb0 hd1 x0 x1 x2 x3 x4 x5 x6 x7 x8 x9 x10 x11 xs1 xs2 xs3 xs4
    = preL (ldP 0 x10) (ldP 1 x10) xs1 xs2 xs3 := by
  unfold sout0_C_3
  rw [View.read_writes_junk_eq_canon]
  refine (View.canon_cons_unit_lit _ _ _ (by decide)).trans ?_
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, readAt_ld, ld_all, ld_all']
  simp only [preM, preL, preA, ldP, ldV, Fin.val_zero, Fin.val_one]

/-- What case C leaves in scratch 4: the weighted sums of values. -/
theorem scratchC_4 : sout0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hb0 hd1 x0 x1 x2 x3 x4 x5 x6 x7 x8 x9 x10 x11 xs1 xs2 xs3 xs4
    = preA (ldP 0 x10) (ldP 1 x10) (ldP 0 x11) (ldP 1 x11) xs1 (ldV 0 x5) (ldV 1 x5) xs2 xs4 := by
  unfold sout0_C_4
  rw [View.read_writes_junk_eq_canon]
  refine (View.canon_cons_unit_lit _ _ _ (by decide)).trans ?_
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, readAt_ld, ld_all, ld_all']
  simp only [preM, preL, preA, ldP, ldV, Fin.val_zero, Fin.val_one]

/-- The sums that the last point divides by. -/
theorem last_L : kernelRun0_C.sl.v125 (F := Ideal) c arg11 harg11 arg15 harg15 arg16 harg16 arg17 harg17 x10 xs1 xs2 xs3
    = (preL (ldP 0 x10) (ldP 1 x10) xs1 xs2 xs3) := by
  refine (readCov_all _ _ _ _ (by decide)).trans ((View.canon_cons_unit_lit _ _ _ (by decide)).trans ?_)
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, readAt_ld, ld_all, ld_all']
  simp only [preM, preL, preA, ldP, ldV, Fin.val_zero, Fin.val_one]

/-- The results that the last point divides. -/
theorem last_A : kernelRun0_C.sl.v130 (F := Ideal) c arg6 harg6 arg11 harg11 arg12 harg12 arg15 harg15 arg16 harg16 arg18 harg18 x5 x10 x11 xs1 xs2 xs4
    = (preA (ldP 0 x10) (ldP 1 x10) (ldP 0 x11) (ldP 1 x11) xs1 (ldV 0 x5) (ldV 1 x5) xs2 xs4) := by
  refine (readCov_all _ _ _ _ (by decide)).trans ((View.canon_cons_unit_lit _ _ _ (by decide)).trans ?_)
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, readAt_ld, ld_all, ld_all']
  simp only [preM, preL, preA, ldP, ldV, Fin.val_zero, Fin.val_one]

/-- What the last point leaves in the output block: the weighted sums over the sums of weights. -/
theorem block_C (b : Fin 8) (z : Fin 2048) : (out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hb0 hd1 x0 x1 x2 x3 x4 x5 x6 x7 x8 x9 x10 x11 xs1 xs2 xs3 xs4 (ix2 b z) : EReal)
    = k0_pay228 (F := Ideal) (preL (ldP 0 x10) (ldP 1 x10) xs1 xs2 xs3)
        (preA (ldP 0 x10) (ldP 1 x10) (ldP 0 x11) (ldP 1 x11) xs1 (ldV 0 x5) (ldV 1 x5) xs2 xs4) (ix2 (⟨8 * (z.val / 128) + b.val, by omega⟩ : Fin 128) (⟨z.val % 128, by omega⟩ : Fin 128)) := by
  have e : out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hb0 hd1 x0 x1 x2 x3 x4 x5 x6 x7 x8 x9 x10 x11 xs1 xs2 xs3 xs4
      = View.canon (cols (outPart (preL (ldP 0 x10) (ldP 1 x10) xs1 xs2 xs3)
        (preA (ldP 0 x10) (ldP 1 x10) (ldP 0 x11) (ldP 1 x11) xs1 (ldV 0 x5) (ldV 1 x5) xs2 xs4))) := by
    unfold out0_C_12
    rw [View.read_writes_junk_eq_canon]
    rw [← last_L c arg11 harg11 arg15 harg15 arg16 harg16 arg17 harg17 x10 xs1 xs2 xs3, ← last_A c arg6 harg6 arg11 harg11 arg12 harg12 arg15 harg15 arg16 harg16 arg18 harg18 x5 x10 x11 xs1 xs2 xs4]
    rfl
  rw [e, canon_cols, outPart_apply]

end Cert.KernelIdeal.Value

end
-- ==== Proof.Value.State.lean ====
/- One row of the running softmax: what its scores and values are on the arguments, and one block of the prefix. -/
module

public import proofs.«01_k».proof.Proof.Value.Spec
public import proofs.«01_k».proof.Proof.Value.Points

@[expose] public section

set_option maxRecDepth 16384

noncomputable section

namespace Cert.KernelIdeal.Value

open Cert.KernelIdeal Cert.KernelIdeal.Gen Idealize.ShloMosaic Idealize.ShloMosaic.TcCoe
open Cert.Spec (Args hd live)
open Cert.Softmax

/-- A part of a buffer at an index. -/
theorem ld_at {s : Shape} {e : EltTy} (o sz : Fin s.rank → ℕ) (h) (X : Vec Ideal s e) (j) (k : s.Idx) (hk : ∀ a, (k a).val = o a + (j a).val) :
    ld o sz h X j = X k := by
  refine congrArg X (funext fun a => Fin.ext ?_)
  show o a + 1 * (j a).val = (k a).val
  rw [hk]; omega

/-- The load of a head's queries, in coordinates. -/
theorem ldQ_at (h : Fin 16) (x1 : Vec Ideal S8x2048 .bf16) (b : Fin 8) (x : Fin 128) :
    ldQ h x1 (ix2 b x) = x1 (ix2 b (⟨128 * h.val + x.val, by omega⟩ : Fin 2048)) :=
  ld_at _ _ _ _ _ _ fun a => by fin_cases a; exact (Nat.zero_add _).symm; rfl

/-- The load of the new keys or values of a head, in coordinates. -/
theorem ldN_at (n : Fin 2) (x : Vec Ideal S8x2x128 .bf16) (b : Fin 8) (d : Fin 128) : ldN n x (ix3 b 0 d) = x (ix3 b n d) :=
  ld_at _ _ _ _ _ _ fun a => by fin_cases a; exact (Nat.zero_add _).symm; rfl; exact (Nat.zero_add _).symm

/-- The load of a head's key scales, in coordinates. -/
theorem ldS_at (n : Fin 2) (x : Vec Ideal S2x128 .f32) (d : Fin 128) : ldS n x (ix2 0 d) = x (ix2 n d) :=
  ld_at _ _ _ _ _ _ fun a => by fin_cases a; rfl; exact (Nat.zero_add _).symm

/-- The load of a sequence's tail keys or values, in coordinates. -/
theorem ldK_at (b : Fin 8) (n : Fin 2) (x : Vec Ideal S8x2x1024x128 .fp8e4m3) (t : Fin 1024) (d : Fin 128) :
    ldK b n x (ix4 0 0 t d) = x (ix4 b n t d) :=
  ld_at _ _ _ _ _ _ fun a => by fin_cases a; rfl; rfl; exact (Nat.zero_add _).symm; exact (Nat.zero_add _).symm

/-- The load of a sequence's tail scales, in coordinates. -/
theorem ldT_at (b : Fin 8) (n : Fin 2) (x : Vec Ideal S8x2x1024 .f32) (t : Fin 1024) : ldT b n x (ix3 0 0 t) = x (ix3 b n t) :=
  ld_at _ _ _ _ _ _ fun a => by fin_cases a; rfl; rfl; exact (Nat.zero_add _).symm

/-- The load of a sequence's tail length. -/
theorem ldLen_at (b : Fin 8) (x : Vec Ideal S8 .i32) : ldLen b x = x (ix1 b) :=
  ld_at _ _ _ _ _ _ fun a => by fin_cases a; rfl

/-- The load of a block's keys or values, in coordinates. -/
theorem ldP_at (n : Fin 2) (x : Vec Ideal S2x4096x128 .fp8e4m3) (j : Fin 4096) (d : Fin 128) : ldP n x (ix3 0 j d) = x (ix3 n j d) :=
  ld_at _ _ _ _ _ _ fun a => by fin_cases a; rfl; exact (Nat.zero_add _).symm; exact (Nat.zero_add _).symm

/-- The load of a block's value scales, in coordinates. -/
theorem ldV_at (n : Fin 2) (x : Vec Ideal S2x4096 .f32) (j : Fin 4096) : ldV n x (ix2 0 j) = x (ix2 n j) :=
  ld_at _ _ _ _ _ _ fun a => by fin_cases a; rfl; exact (Nat.zero_add _).symm

/-! ## The row of one sequence and query head -/

/-- The row of sequence `b` and group member `g` of key-value head `n`. -/
def rowIx (n : Fin 2) (g b : Fin 8) : Fin 128 := ⟨64 * n.val + (8 * g.val + b.val), by omega⟩

/-- The row of a query head of the first key-value head. -/
theorem rowIx_zero (g b : Fin 8) : rowIx 0 g b = ⟨(⟨8 * g.val + b.val, by omega⟩ : Fin 64).val, by omega⟩ :=
  Fin.ext (by simp [rowIx])
/-- The row of a query head of the second key-value head. -/
theorem rowIx_one (g b : Fin 8) : rowIx 1 g b = ⟨64 + (⟨8 * g.val + b.val, by omega⟩ : Fin 64).val, by omega⟩ :=
  Fin.ext (by simp [rowIx])

/-- There are two key-value heads. -/
theorem two (n : Fin 2) : n = 0 ∨ n = 1 := by revert n; decide

variable (A : Args) (n : Fin 2) (g b : Fin 8)

/-- The new position's score, scaled for the base 2. -/
def sN : EReal := (∑ d : Fin 128, A.x (ix4 b 0 (hd n g) d) * A.kn (ix4 b 0 n d)) * scale2
/-- A tail position's score, scaled for the base 2. -/
def sT (t : Fin 1024) : EReal :=
  Scalar.select (live A b t) ((∑ d : Fin 128, A.x (ix4 b 0 (hd n g) d) * A.tk (ix4 b t n d)) * A.ts (ix3 b t n) * scale2) ⊥
/-- A prefix position's score, scaled for the base 2. -/
def sP (p : ℕ) : EReal :=
  if h : p < 65536 then (∑ d : Fin 128, A.x (ix4 b 0 (hd n g) d) * A.ks (ix2 n d) * A.pk (ix3 (⟨p, h⟩ : Fin 65536) n d)) * scale2 else 0
/-- A tail position's value. -/
def vT (d : Fin 128) (t : Fin 1024) : EReal := A.us (ix3 b t n) * A.tv (ix4 b t n d)
/-- A prefix position's value. -/
def vP (d : Fin 128) (p : ℕ) : EReal :=
  if h : p < 65536 then A.vs (ix2 (⟨p, h⟩ : Fin 65536) n) * A.pv (ix3 (⟨p, h⟩ : Fin 65536) n d) else 0

variable (a : ℕ) (M L Acc : Vec Ideal S128x128 .f32)

/-- The three buffers hold a row's state after the first `a` keys of the prefix. -/
def RowAt : Prop :=
  ∃ mm : EReal, (∀ x, (M (ix2 (rowIx n g b) x) : EReal) = mm) ∧ ∀ d, Row (sN A n g b) (A.vn (ix4 b 0 n d)) (sT A n g b) (vT A n b d) (sP A n g b) (vP A n d) a mm
    (∑ x : Fin 128, (L (ix2 (rowIx n g b) x) : EReal)) (Acc (ix2 (rowIx n g b) d))

/-- The three buffers hold a row's greatest score over the first `a` keys, and exactly the sums under it. -/
def RowEnd : Prop :=
  ∃ mm : EReal, (∀ z, mm ≤ z ↔ bnd (sN A n g b) (sT A n g b) (sP A n g b) a z)
    ∧ (∑ x : Fin 128, (L (ix2 (rowIx n g b) x) : EReal)) = wsum (sN A n g b) (sT A n g b) (sP A n g b) a mm
    ∧ ∀ d, (Acc (ix2 (rowIx n g b) d) : EReal) = wacc (sN A n g b) (A.vn (ix4 b 0 n d)) (sT A n g b) (vT A n b d) (sP A n g b) (vP A n d) a mm

/-- The queries times the prefix's key scales: head 0's rows in the first 128 columns, head 1's in the last, zero
    elsewhere. -/
structure QOk (Q : Vec Ideal S128x256 .bf16) : Prop where
  left : ∀ (n : Fin 2) (g b : Fin 8) (x : Fin 128), (Q (ix2 (rowIx n g b) (⟨x.val, by omega⟩ : Fin 256)) : EReal)
    = if n = 0 then A.x (ix4 b 0 (hd n g) x) * A.ks (ix2 n x) else 0
  right : ∀ (n : Fin 2) (g b : Fin 8) (x : Fin 128), (Q (ix2 (rowIx n g b) (⟨128 + x.val, by omega⟩ : Fin 256)) : EReal)
    = if n = 0 then 0 else A.x (ix4 b 0 (hd n g) x) * A.ks (ix2 n x)

/-- Block `i` of the prefix: scales of the values, keys and values. -/
structure WinsP (i : Fin 16) (x5 : Vec Ideal S2x4096 .f32) (x10 x11 : Vec Ideal S2x4096x128 .fp8e4m3) : Prop where
  vs : ∀ (n : Fin 2) (j : Fin 4096), (x5 (ix2 n j) : EReal) = A.vs (ix2 (⟨4096 * i.val + j.val, by omega⟩ : Fin 65536) n)
  pk : ∀ (n : Fin 2) (j : Fin 4096) (d : Fin 128), (x10 (ix3 n j d) : EReal) = A.pk (ix3 (⟨4096 * i.val + j.val, by omega⟩ : Fin 65536) n d)
  pv : ∀ (n : Fin 2) (j : Fin 4096) (d : Fin 128), (x11 (ix3 n j d) : EReal) = A.pv (ix3 (⟨4096 * i.val + j.val, by omega⟩ : Fin 65536) n d)

variable {A n g b M L Acc} {Q : Vec Ideal S128x256 .bf16} {i : Fin 16} {x5 : Vec Ideal S2x4096 .f32} {x10 x11 : Vec Ideal S2x4096x128 .fp8e4m3}

/-- The scores of a block of the prefix. -/
theorem sP_at (i : Fin 16) (j : Fin 4096) : sP A n g b (4096 * i.val + j.val)
    = (∑ d : Fin 128, A.x (ix4 b 0 (hd n g) d) * A.ks (ix2 n d) * A.pk (ix3 (⟨4096 * i.val + j.val, by omega⟩ : Fin 65536) n d)) * scale2 :=
  dif_pos _

/-- The scaled values of a block of the prefix. -/
theorem vP_at (i : Fin 16) (j : Fin 4096) (d : Fin 128) : vP A n d (4096 * i.val + j.val)
    = A.vs (ix2 (⟨4096 * i.val + j.val, by omega⟩ : Fin 65536) n) * A.pv (ix3 (⟨4096 * i.val + j.val, by omega⟩ : Fin 65536) n d) :=
  dif_pos _

/-- The block's scores. -/
theorem block_score (hQ : QOk A Q) (hw : WinsP A i x5 x10 x11) (j : Fin 4096) :
    (k0_pay240 (F := Ideal) (ldP 0 x10) (ldP 1 x10) Q (ix2 (rowIx n g b) j) : EReal) = sP A n g b (4096 * i.val + j.val) := by
  rw [score_apply, sP_at]
  simp only [hQ.left, hQ.right, ldP_at, hw.pk]
  rcases two n with rfl | rfl <;> simp

/-- The block's values, weighted. -/
theorem block_acc (hw : WinsP A i x5 x10 x11) {sc : Fin 4096 → EReal} {mm : EReal}
    (hsc : ∀ j, k0_pay240 (F := Ideal) (ldP 0 x10) (ldP 1 x10) Q (ix2 (rowIx n g b) j) = sc j) (hm : ∀ x, M (ix2 (rowIx n g b) x) = mm) (d : Fin 128) :
    (preA (ldP 0 x10) (ldP 1 x10) (ldP 0 x11) (ldP 1 x11) Q (ldV 0 x5) (ldV 1 x5) M Acc (ix2 (rowIx n g b) d) : EReal)
      = (Acc (ix2 (rowIx n g b) d) : EReal) * Ideal.exp2 (mm - (mm ⊔ Finset.univ.sup sc))
        + ∑ j : Fin 4096, Ideal.exp2 (sc j - (mm ⊔ Finset.univ.sup sc)) * vP A n d (4096 * i.val + j.val) := by
  simp only [vP_at, ← hw.vs, ← hw.pv]
  rcases two n with rfl | rfl
  · rw [rowIx_zero] at *
    rw [preA_apply0 _ _ _ _ _ _ _ _ _ sc hsc hm]
    simp only [ldP_at, ldV_at]
  · rw [rowIx_one] at *
    rw [preA_apply1 _ _ _ _ _ _ _ _ _ sc hsc hm]
    simp only [ldP_at, ldV_at]

/-- One block of the prefix. -/
theorem block_step (hQ : QOk A Q) (hw : WinsP A i x5 x10 x11) (h : RowAt A n g b (4096 * i.val) M L Acc) :
    RowAt A n g b (4096 * (i.val + 1)) (preM (ldP 0 x10) (ldP 1 x10) Q M) (preL (ldP 0 x10) (ldP 1 x10) Q M L)
        (preA (ldP 0 x10) (ldP 1 x10) (ldP 0 x11) (ldP 1 x11) Q (ldV 0 x5) (ldV 1 x5) M Acc)
      ∧ RowEnd A n g b (4096 * (i.val + 1)) (preL (ldP 0 x10) (ldP 1 x10) Q M L)
        (preA (ldP 0 x10) (ldP 1 x10) (ldP 0 x11) (ldP 1 x11) Q (ldV 0 x5) (ldV 1 x5) M Acc) := by
  obtain ⟨mm, hm, hr⟩ := h
  have hsc := block_score (n := n) (g := g) (b := b) hQ hw
  have hL := preL_apply (ldP 0 x10) (ldP 1 x10) Q M L _ hsc hm
  have hA := block_acc (Acc := Acc) hw hsc hm
  have hs := fun d => (hr d).step (fun j : Fin 4096 => sP A n g b (4096 * i.val + j.val)) (fun j => vP A n d (4096 * i.val + j.val)) (fun _ => rfl) (fun _ => rfl) rfl
  rw [show 4096 * (i.val + 1) = 4096 * i.val + 4096 by omega]
  refine ⟨⟨_, preM_apply _ _ _ _ _ hsc hm, fun d => ?_⟩, ⟨_, (hs 0).1.max, ?_, fun d => ?_⟩⟩
  · rw [hL, hA]; exact (hs d).1
  · rw [hL]; exact (hs 0).2.1
  · rw [hA]; exact (hs d).2.2

end Cert.KernelIdeal.Value

end
-- ==== Proof.Value.Init.lean ====
/- The first point: the state of a row after the new position and the tail. -/
module

public import proofs.«01_k».proof.Proof.Value.State
public import proofs.«01_k».proof.Proof.Value.Tail

@[expose] public section

set_option maxRecDepth 16384

noncomputable section

namespace Cert.KernelIdeal.Value

open Cert.KernelIdeal Cert.KernelIdeal.Gen Idealize.ShloMosaic Idealize.ShloMosaic.TcCoe
open Cert.Spec (Args hd live)
open Cert.Softmax

/-- A sequence's row of the sixteen heads' stores. -/
theorem rows_heads {e : EltTy} (w : Fin 16 → Vec Ideal S8x128 e) (b : Fin 8) (y : Fin 16) (x : Fin 128) :
    rows b (View.canon (heads w)) (ix2 y x) = w y (ix2 b x) := by
  rw [rows_apply, canon_heads]
  have e1 : ∀ h, (⟨(8 * y.val + b.val) / 8, h⟩ : Fin 16) = y := fun h => Fin.ext (by show (8 * y.val + b.val) / 8 = y.val; omega)
  have e2 : ∀ h, (⟨(8 * y.val + b.val) % 8, h⟩ : Fin 8) = b := fun h => Fin.ext (by show (8 * y.val + b.val) % 8 = b.val; omega)
  simp only [e1, e2]

/-- The row of a sequence and head among the eight sequences' stores. -/
theorem seqs_row {e : EltTy} (w : Fin 8 → Vec Ideal S16x128 e) (L : List (View.Piece (Elt Ideal) S128x128 e)) (n : Fin 2) (g b : Fin 8) (x : Fin 128) :
    View.canon (seqs w L) (ix2 (rowIx n g b) x) = w b (ix2 (hd n g) x) := by
  rw [canon_seqs]
  have e1 : ∀ h, (⟨(rowIx n g b).val % 8, h⟩ : Fin 8) = b := fun h => Fin.ext (by show (64 * n.val + (8 * g.val + b.val)) % 8 = b.val; omega)
  have e2 : ∀ h, (⟨(rowIx n g b).val / 8, h⟩ : Fin 16) = hd n g := fun h => Fin.ext (by
    show (64 * n.val + (8 * g.val + b.val)) / 8 = n.val * 8 + g.val; omega)
  simp only [e1, e2]

/-- The first eight query heads belong to the first key-value head. -/
theorem hd_zero (g : Fin 8) : hd 0 g = ⟨g.val, by omega⟩ := Fin.ext (by simp [hd])
/-- The last eight query heads belong to the second key-value head. -/
theorem hd_one (g : Fin 8) : hd 1 g = ⟨8 + g.val, by omega⟩ := Fin.ext (by simp [hd])
/-- The key-value head of a query head. -/
theorem kvh_hd (n : Fin 2) (g : Fin 8) : kvh (hd n g) = n := Fin.ext (by dsimp only [kvh, hd]; omega)

/-! ## The payloads at coordinates -/

/-- The widened query, in coordinates. -/
theorem query_apply (v : Vec Ideal S8x128 .bf16) (b : Fin 8) (x : Fin 128) : (k0_pay22 (F := Ideal) v (ix2 b x) : EReal) = v (ix2 b x) := by
  pointwise [k0_pay22, k0_pay21]

/-- The new position's score before scaling, in coordinates. -/
theorem new_score_apply (k : Vec Ideal S8x1x128 .bf16) (v : Vec Ideal S8x128 .bf16) (b : Fin 8) (x : Fin 128) :
    (k0_pay24 (F := Ideal) (k0_pay13 k) v (ix2 b x) : EReal) = (∑ d : Fin 128, (v (ix2 b d) : EReal) * k (ix3 b 0 d)) * scale2 := by
  pointwise [k0_pay24, k0_pay13, k0_pay21]
  rw [named_scale2]

/-- The new position's value, in coordinates. -/
theorem new_value_apply (v : Vec Ideal S8x1x128 .bf16) (b : Fin 8) (x : Fin 128) : (k0_pay20 (F := Ideal) (k0_pay14 v) (ix2 b x) : EReal) = v (ix3 b 0 x) := by
  pointwise [k0_pay20, k0_pay14]

/-- The weight one of the new position is kept in the first lane. -/
theorem one_lane_apply (b : Fin 8) (x : Fin 128) : (k0_pay123 (F := Ideal) (ix2 b x) : EReal) = if x = 0 then 1 else 0 := by
  pointwise [k0_pay123]
  have h : IntOp.cmpi .eq (BitVec.ofNat 32 x.val) 0#32 = if x = 0 then 1#1 else 0#1 := by revert x; decide
  rw [h]
  split <;> rfl

/-! ## The state after the tail -/

variable (A : Args)

/-- The queries, the new position's keys and values, the tail's keys, values and scales, and the tail's lengths. -/
structure WinsT (x0 : Vec Ideal S8 .i32) (x1 : Vec Ideal S8x2048 .bf16) (x2 x3 : Vec Ideal S8x2x128 .bf16)
    (x6 x7 : Vec Ideal S8x2x1024x128 .fp8e4m3) (x8 x9 : Vec Ideal S8x2x1024 .f32) : Prop where
  len : ∀ b : Fin 8, (x0 (ix1 b) : BitVec 32) = A.len (ix1 b)
  x : ∀ (b : Fin 8) (h : Fin 16) (d : Fin 128), (x1 (ix2 b (⟨128 * h.val + d.val, by omega⟩ : Fin 2048)) : EReal) = A.x (ix4 b 0 h d)
  kn : ∀ (b : Fin 8) (n : Fin 2) (d : Fin 128), (x2 (ix3 b n d) : EReal) = A.kn (ix4 b 0 n d)
  vn : ∀ (b : Fin 8) (n : Fin 2) (d : Fin 128), (x3 (ix3 b n d) : EReal) = A.vn (ix4 b 0 n d)
  tk : ∀ (b : Fin 8) (n : Fin 2) (t : Fin 1024) (d : Fin 128), (x6 (ix4 b n t d) : EReal) = A.tk (ix4 b t n d)
  tv : ∀ (b : Fin 8) (n : Fin 2) (t : Fin 1024) (d : Fin 128), (x7 (ix4 b n t d) : EReal) = A.tv (ix4 b t n d)
  ts : ∀ (b : Fin 8) (n : Fin 2) (t : Fin 1024), (x8 (ix3 b n t) : EReal) = A.ts (ix3 b t n)
  us : ∀ (b : Fin 8) (n : Fin 2) (t : Fin 1024), (x9 (ix3 b n t) : EReal) = A.us (ix3 b t n)

variable {A} {x0 : Vec Ideal S8 .i32} {x1 : Vec Ideal S8x2048 .bf16} {x2 x3 : Vec Ideal S8x2x128 .bf16}
  {x6 x7 : Vec Ideal S8x2x1024x128 .fp8e4m3} {x8 x9 : Vec Ideal S8x2x1024 .f32} (hw : WinsT A x0 x1 x2 x3 x6 x7 x8 x9) (n : Fin 2) (g b : Fin 8)

include hw

/-- A row's queries. -/
theorem row_query (x : Fin 128) : (rows b (View.canon (initQ x1)) (ix2 (hd n g) x) : EReal) = A.x (ix4 b 0 (hd n g) x) := by
  unfold initQ
  rw [rows_heads, query_apply, ldQ_at, hw.x]

/-- A row's first maximum: the new position's score. -/
theorem row_max (x : Fin 128) : (rows b (View.canon (initM x1 x2)) (ix2 (hd n g) x) : EReal) = sN A n g b := by
  unfold initM
  rw [rows_heads, new_score_apply, kvh_hd]
  simp only [ldQ_at, ldN_at, hw.x, hw.kn]
  rfl

/-- A row's first sum of weights. -/
theorem row_sum : ∑ x : Fin 128, (rows b (View.canon initL) (ix2 (hd n g) x) : EReal) = 1 := by
  unfold initL
  simp only [rows_heads, one_lane_apply]
  rw [Finset.sum_ite_eq' Finset.univ (0 : Fin 128)]
  simp

/-- A row's first weighted sum of values: the new position's value. -/
theorem row_acc (d : Fin 128) : (rows b (View.canon (initA x3)) (ix2 (hd n g) d) : EReal) = A.vn (ix4 b 0 n d) := by
  unfold initA
  rw [rows_heads, new_value_apply, kvh_hd, ldN_at, hw.vn]

/-- The tail's scores of a row. -/
theorem tail_score (t : Fin 1024) : (tailS (rows b (View.canon (initQ x1))) (ldK b 0 x6) (ldK b 1 x6) (ldLen b x0) (ldT b 0 x8) (ldT b 1 x8) (ix2 (hd n g) t) : EReal)
    = sT A n g b t := by
  have hq := row_query hw n g b
  unfold sT
  simp only [← hq, ← hw.tk, ← hw.ts]
  rcases two n with rfl | rfl
  · rw [hd_zero, tailS_apply0, ldLen_at, hw.len]
    simp only [ldK_at, ldT_at]
    rfl
  · rw [hd_one, tailS_apply1, ldLen_at, hw.len]
    simp only [ldK_at, ldT_at]
    rfl

/-- The tail's weighted values of a row. -/
theorem tail_acc (d : Fin 128) : (tailA (rows b (View.canon (initQ x1))) (ldK b 0 x6) (ldK b 1 x6) (ldK b 0 x7) (ldK b 1 x7) (ldLen b x0) (ldT b 0 x8) (ldT b 1 x8)
      (ldT b 0 x9) (ldT b 1 x9) (rows b (View.canon (initM x1 x2))) (rows b (View.canon (initA x3))) (ix2 (hd n g) d) : EReal)
    = A.vn (ix4 b 0 n d) * Ideal.exp2 (sN A n g b - (sN A n g b ⊔ Finset.univ.sup (sT A n g b)))
      + ∑ t, Ideal.exp2 (sT A n g b t - (sN A n g b ⊔ Finset.univ.sup (sT A n g b))) * vT A n b d t := by
  have hs := tail_score hw n g b
  have hm := row_max hw n g b
  have ha := row_acc hw n g b d
  unfold vT
  simp only [← ha, ← hw.tv, ← hw.us]
  rcases two n with rfl | rfl
  · generalize sN A 0 g b = m0 at *
    generalize sT A 0 g b = s0 at *
    rw [hd_zero] at *
    rw [tailA_apply0 _ _ _ _ _ _ _ _ _ _ _ _ s0 hs hm]
    simp only [ldK_at, ldT_at]
  · generalize sN A 1 g b = m0 at *
    generalize sT A 1 g b = s0 at *
    rw [hd_one] at *
    rw [tailA_apply1 _ _ _ _ _ _ _ _ _ _ _ _ s0 hs hm]
    simp only [ldK_at, ldT_at]

/-- After the new position and the tail a row holds its state before the prefix. -/
theorem row_init : RowAt A n g b 0
    (View.canon (seqs (fun b => tailM (rows b (View.canon (initQ x1))) (ldK b 0 x6) (ldK b 1 x6) (ldLen b x0) (ldT b 0 x8) (ldT b 1 x8)
      (rows b (View.canon (initM x1 x2)))) (initM x1 x2)))
    (View.canon (seqs (fun b => tailL (rows b (View.canon (initQ x1))) (ldK b 0 x6) (ldK b 1 x6) (ldLen b x0) (ldT b 0 x8) (ldT b 1 x8)
      (rows b (View.canon (initM x1 x2))) (rows b (View.canon initL))) initL))
    (View.canon (seqs (fun b => tailA (rows b (View.canon (initQ x1))) (ldK b 0 x6) (ldK b 1 x6) (ldK b 0 x7) (ldK b 1 x7) (ldLen b x0) (ldT b 0 x8) (ldT b 1 x8)
      (ldT b 0 x9) (ldT b 1 x9) (rows b (View.canon (initM x1 x2))) (rows b (View.canon (initA x3)))) (initA x3))) := by
  have hs := tail_score hw n g b
  have hm := row_max hw n g b
  refine ⟨_, fun x => (seqs_row _ _ n g b x).trans (tailM_apply _ _ _ _ _ _ _ _ hs hm x), fun d => ?_⟩
  simp only [seqs_row]
  rw [tailL_apply _ _ _ _ _ _ _ _ _ hs hm, row_sum hw n g b, tail_acc hw n g b d]
  exact Row.init

end Cert.KernelIdeal.Value

end
-- ==== Proof.Value.FirstQ.lean ====
/- The first point's queries times the prefix's key scales. -/
module

public import proofs.«01_k».proof.Proof.Value.State

@[expose] public section

set_option maxRecDepth 16384

noncomputable section

namespace Cert.KernelIdeal.Value

open Cert.KernelIdeal Cert.KernelIdeal.Gen Cert.KernelIdeal.Hand Cert.KernelIdeal.Hand.kernelRun0_A.sl Idealize.ShloMosaic Idealize.ShloMosaic.TcCoe

variable (c : Dev nD) (i : grid0.Coords)
  (arg1 : Memref sig .tc .smem S8 .i32) (harg1 : arg1.IsWhole) (arg2 : Memref sig .tc .vmem S8x2048 .bf16) (harg2 : arg2.IsWhole)
  (arg3 : Memref sig .tc .vmem S8x2x128 .bf16) (harg3 : arg3.IsWhole) (arg4 : Memref sig .tc .vmem S8x2x128 .bf16) (harg4 : arg4.IsWhole)
  (arg5 : Memref sig .tc .vmem S2x128 .f32) (harg5 : arg5.IsWhole) (arg6 : Memref sig .tc .vmem S2x4096 .f32) (harg6 : arg6.IsWhole)
  (arg7 : Memref sig .tc .vmem S8x2x1024x128 .fp8e4m3) (harg7 : arg7.IsWhole)
  (arg8 : Memref sig .tc .vmem S8x2x1024x128 .fp8e4m3) (harg8 : arg8.IsWhole) (arg9 : Memref sig .tc .vmem S8x2x1024 .f32) (harg9 : arg9.IsWhole)
  (arg10 : Memref sig .tc .vmem S8x2x1024 .f32) (harg10 : arg10.IsWhole) (arg11 : Memref sig .tc .vmem S2x4096x128 .fp8e4m3) (harg11 : arg11.IsWhole)
  (arg12 : Memref sig .tc .vmem S2x4096x128 .fp8e4m3) (harg12 : arg12.IsWhole) (arg13 : Memref sig .tc .vmem S8x2048 .bf16) (harg13 : arg13.IsWhole)
  (arg14 : Memref sig .tc .vmem S128x128 .f32) (harg14 : arg14.IsWhole) (arg15 : Memref sig .tc .vmem S128x256 .bf16) (harg15 : arg15.IsWhole)
  (arg16 : Memref sig .tc .vmem S128x128 .f32) (harg16 : arg16.IsWhole) (arg17 : Memref sig .tc .vmem S128x128 .f32) (harg17 : arg17.IsWhole)
  (arg18 : Memref sig .tc .vmem S128x128 .f32) (harg18 : arg18.IsWhole)
  (hc0 : cond0_0 i) (hc1 : ¬cond0_1 i)
  (x0 : Vec Ideal S8 .i32) (x1 : Vec Ideal S8x2048 .bf16) (x2 : Vec Ideal S8x2x128 .bf16) (x3 : Vec Ideal S8x2x128 .bf16) (x4 : Vec Ideal S2x128 .f32)
  (x5 : Vec Ideal S2x4096 .f32) (x6 : Vec Ideal S8x2x1024x128 .fp8e4m3) (x7 : Vec Ideal S8x2x1024x128 .fp8e4m3) (x8 : Vec Ideal S8x2x1024 .f32)
  (x9 : Vec Ideal S8x2x1024 .f32) (x10 : Vec Ideal S2x4096x128 .fp8e4m3) (x11 : Vec Ideal S2x4096x128 .fp8e4m3)

/-- A concatenation of eight pieces of one shape, piece by piece. -/
@[local congr] theorem concat_congr8 {α : Type} {t s : Shape} {a : Fin t.rank} {v0 v1 v2 v3 v4 v5 v6 v7 w0 w1 w2 w3 w4 w5 w6 w7 : s.Idx → α} {h : Shape.Concatenates [s, s, s, s, s, s, s, s] t a}
    (e0 : v0 = w0) (e1 : v1 = w1) (e2 : v2 = w2) (e3 : v3 = w3) (e4 : v4 = w4) (e5 : v5 = w5) (e6 : v6 = w6) (e7 : v7 = w7) :
    concatenate t a [⟨s, v0⟩, ⟨s, v1⟩, ⟨s, v2⟩, ⟨s, v3⟩, ⟨s, v4⟩, ⟨s, v5⟩, ⟨s, v6⟩, ⟨s, v7⟩] h = concatenate t a [⟨s, w0⟩, ⟨s, w1⟩, ⟨s, w2⟩, ⟨s, w3⟩, ⟨s, w4⟩, ⟨s, w5⟩, ⟨s, w6⟩, ⟨s, w7⟩] h := by
  subst e0; subst e1; subst e2; subst e3; subst e4; subst e5; subst e6; subst e7; rfl

attribute [local congr] concat_congr

/-- Head `h`'s queries times key-value head `n`'s scales of the prefix's keys. -/
def qk (n : Fin 2) (h : Fin 16) (x1 : Vec Ideal S8x2048 .bf16) (x4 : Vec Ideal S2x128 .f32) : Vec Ideal S8x128 .bf16 := k0_pay23 (k0_pay12 (ldS n x4)) (ldQ h x1)

/-- The rows that the prefix's keys are multiplied with: head 0's in the first 128 columns, head 1's in the last. -/
def initK (x1 : Vec Ideal S8x2048 .bf16) (x4 : Vec Ideal S2x128 .f32) : List (View.Piece (Elt Ideal) S128x256 .bf16) :=
  [⟨Rect.unit ![64, 0] S64x256.size inb_S128x256_S64x256_64_0,
      k0_pay125 (F := Ideal) (qk 1 8 x1 x4) (qk 1 9 x1 x4) (qk 1 10 x1 x4) (qk 1 11 x1 x4) (qk 1 12 x1 x4) (qk 1 13 x1 x4) (qk 1 14 x1 x4) (qk 1 15 x1 x4)⟩,
    ⟨Rect.unit ![0, 0] S64x256.size inb_S128x256_S64x256_0_0,
      k0_pay67 (k0_pay65 (F := Ideal) (k0_pay12 (ldS 0 x4)) (qk 0 0 x1 x4) (qk 0 1 x1 x4) (qk 0 2 x1 x4) (qk 0 3 x1 x4) (qk 0 4 x1 x4) (qk 0 5 x1 x4) (qk 0 6 x1 x4) (ldQ 7 x1)) (k0_pay66 (F := Ideal))⟩]

set_option maxHeartbeats 2000000 in
/-- The writes of the first point to the buffer of scaled queries. -/
theorem pieces_K : HS1_2 (F := Ideal) c arg2 harg2 arg5 harg5 x1 x4 = initK x1 x4 := by
  simp only [HS1_2, v650, r_14, v647, r, r_3, r_4, r_6, r_9, r_10, r_12, r_13, v646, v645, r_5, r_8, cst_262, r_18, r_19, r_20, r_22, r_23, r_25, r_27, r_28,
    r_15, r_21, readAt_ld]
  rfl

/-- A scaled query, in coordinates. -/
theorem qk_apply (n : Fin 2) (h : Fin 16) (x1 : Vec Ideal S8x2048 .bf16) (x4 : Vec Ideal S2x128 .f32) (b : Fin 8) (x : Fin 128) :
    (qk n h x1 x4 (ix2 b x) : EReal) = ldQ h x1 (ix2 b x) * ldS n x4 (ix2 0 x) := by
  unfold qk
  pointwise [k0_pay23, k0_pay12, k0_pay21]

variable (a0 a1 a2 a3 a4 a5 a6 a7 : FVec Ideal S8x128 .bf16) (s : FVec Ideal S1x128 .f32) (g b : Fin 8) (x : Fin 128)

/-- Head 1's rows hold the eight pieces in the last 128 columns. -/
theorem half1_right : k0_pay125 a0 a1 a2 a3 a4 a5 a6 a7 (ix2 (⟨8 * g.val + b.val, by omega⟩ : Fin 64) (⟨128 + x.val, by omega⟩ : Fin 256))
    = (![a0, a1, a2, a3, a4, a5, a6, a7] : Fin 8 → FVec Ideal S8x128 .bf16) g (ix2 b x) := by
  fin_cases g
  all_goals
    dsimp only [Matrix.cons_val]
    pointwise [k0_pay125]
  all_goals
    repeat rw [dif_neg (by omega)]
    try rw [dif_pos (by omega)]
    first
    | (congr 2; apply Fin.ext; dsimp only; omega)
    | (congr 3; exact Fin.ext (by dsimp only; omega))

/-- Head 1's rows are zero in the first 128 columns. -/
theorem half1_left : (k0_pay125 a0 a1 a2 a3 a4 a5 a6 a7 (ix2 (⟨8 * g.val + b.val, by omega⟩ : Fin 64) (⟨x.val, by omega⟩ : Fin 256)) : EReal) = 0 := by
  unfold k0_pay125
  generalize concatenate S64x128 _ _ _ = c
  pointwise
  try exact Ideal.ofBits_zero_bf16

/-- Head 0's rows hold the eight pieces. -/
theorem half0 : (k0_pay65 s a0 a1 a2 a3 a4 a5 a6 a7 (ix2 (⟨8 * g.val + b.val, by omega⟩ : Fin 64) x) : EReal)
    = (![a0, a1, a2, a3, a4, a5, a6, k0_pay23 s a7] : Fin 8 → FVec Ideal S8x128 .bf16) g (ix2 b x) := by
  fin_cases g
  all_goals
    dsimp only [Matrix.cons_val]
    pointwise [k0_pay65, k0_pay23, k0_pay21, k0_pay60]
  all_goals
    repeat rw [dif_neg (by omega)]
    try rw [dif_pos (by omega)]
    first
    | (congr 2; apply Fin.ext; dsimp only; omega)
    | (congr 3; apply Fin.ext; dsimp only; omega)
    | congr 3

/-- The first head's half holds its queries in the left columns. -/
theorem half0_left (v : FVec Ideal S64x128 .bf16) (r : Fin 64) : (k0_pay67 v (k0_pay66 (F := Ideal)) (ix2 r (⟨x.val, by omega⟩ : Fin 256)) : EReal) = v (ix2 r x) := by
  pointwise [k0_pay67, k0_pay66]

/-- The first head's half is zero in the right columns. -/
theorem half0_right (v : FVec Ideal S64x128 .bf16) (r : Fin 64) : (k0_pay67 v (k0_pay66 (F := Ideal)) (ix2 r (⟨128 + x.val, by omega⟩ : Fin 256)) : EReal) = 0 := by
  pointwise [k0_pay67, k0_pay66]
  try exact Ideal.ofBits_zero_bf16

/-- The rows of head 1 come from the last store. -/
theorem canon_K1 (x1 : Vec Ideal S8x2048 .bf16) (x4 : Vec Ideal S2x128 .f32) (z : Fin 256) : View.canon (initK x1 x4) (ix2 (rowIx 1 g b) z)
    = k0_pay125 (F := Ideal) (qk 1 8 x1 x4) (qk 1 9 x1 x4) (qk 1 10 x1 x4) (qk 1 11 x1 x4) (qk 1 12 x1 x4) (qk 1 13 x1 x4) (qk 1 14 x1 x4) (qk 1 15 x1 x4) (ix2 (⟨8 * g.val + b.val, by omega⟩ : Fin 64) z) := by
  have e : (ix2 (rowIx 1 g b) z : S128x256.Idx) = (Rect.unit (s := S128x256) ![64, 0] S64x256.size inb_S128x256_S64x256_64_0).emb (ix2 (⟨8 * g.val + b.val, by omega⟩ : Fin 64) z) := by
    funext a
    apply Fin.ext
    fin_cases a
    · show 64 * 1 + (8 * g.val + b.val) = 64 + 1 * (8 * g.val + b.val); omega
    · show z.val = 0 + 1 * z.val; omega
  rw [e]
  exact View.canon_cons_emb _ _ _ _

/-- The rows of head 0 come from the first store. -/
theorem canon_K0 (x1 : Vec Ideal S8x2048 .bf16) (x4 : Vec Ideal S2x128 .f32) (z : Fin 256) : View.canon (initK x1 x4) (ix2 (rowIx 0 g b) z)
    = k0_pay67 (k0_pay65 (F := Ideal) (k0_pay12 (ldS 0 x4)) (qk 0 0 x1 x4) (qk 0 1 x1 x4) (qk 0 2 x1 x4) (qk 0 3 x1 x4) (qk 0 4 x1 x4) (qk 0 5 x1 x4) (qk 0 6 x1 x4) (ldQ 7 x1)) (k0_pay66 (F := Ideal)) (ix2 (⟨8 * g.val + b.val, by omega⟩ : Fin 64) z) := by
  refine (View.canon_cons_of_not_mem _ _ fun hm => ?_).trans ?_
  · obtain ⟨j, hj⟩ := LoadRect.exists_idx_of_mem _ hm
    have h0 : 64 + 1 * (j 0).val = 64 * 0 + (8 * g.val + b.val) := congrArg (fun z : S128x256.Idx => (z 0).val) hj
    omega
  have e : (ix2 (rowIx 0 g b) z : S128x256.Idx) = (Rect.unit (s := S128x256) ![0, 0] S64x256.size inb_S128x256_S64x256_0_0).emb (ix2 (⟨8 * g.val + b.val, by omega⟩ : Fin 64) z) := by
    funext a
    apply Fin.ext
    fin_cases a
    · show 64 * 0 + (8 * g.val + b.val) = 0 + 1 * (8 * g.val + b.val); omega
    · show z.val = 0 + 1 * z.val; omega
  rw [e]
  exact View.canon_cons_emb _ _ _ _

variable (A : Cert.Spec.Args)

/-- The first point's queries times the prefix's key scales, on the arguments. -/
theorem initK_ok (x1 : Vec Ideal S8x2048 .bf16) (x4 : Vec Ideal S2x128 .f32)
    (h1 : ∀ (b : Fin 8) (h : Fin 16) (d : Fin 128), (x1 (ix2 b (⟨128 * h.val + d.val, by omega⟩ : Fin 2048)) : EReal) = A.x (ix4 b 0 h d))
    (h4 : ∀ (n : Fin 2) (d : Fin 128), (x4 (ix2 n d) : EReal) = A.ks (ix2 n d)) : QOk A (View.canon (initK x1 x4)) := by
  have hq : ∀ (n : Fin 2) (h : Fin 16) (b : Fin 8) (x : Fin 128), (qk n h x1 x4 (ix2 b x) : EReal) = A.x (ix4 b 0 h x) * A.ks (ix2 n x) := fun n h b x => by
    rw [qk_apply, ldQ_at, ldS_at, h1, h4]
  constructor
  · intro n g b x
    rcases two n with rfl | rfl
    · rw [canon_K0, half0_left, half0, if_pos rfl]
      fin_cases g <;> exact hq _ _ _ _
    · rw [canon_K1, half1_left, if_neg (by decide)]
  · intro n g b x
    rcases two n with rfl | rfl
    · rw [canon_K0, half0_right, if_pos rfl]
    · rw [canon_K1, half1_right, if_neg (by decide)]
      fin_cases g <;> exact hq _ _ _ _

end Cert.KernelIdeal.Value

end
-- ==== Proof.Value.Blocks.lean ====
/- The kernel's arguments, and the blocks its windows load of them. -/
module

public import proofs.«01_k».proof.Proof.Value.Init
public import proofs.«01_k».proof.Proof.Value.FirstQ
public import Idealize.ShloMosaic.Lib.StableHlo.ReadAt

@[expose] public section

set_option maxRecDepth 16384

noncomputable section

namespace Cert.KernelIdeal.Value

open Cert.KernelIdeal Cert.KernelIdeal.Gen Idealize.ShloMosaic Idealize.ShloMosaic.TcCoe Idealize.ShloMosaic.StableHlo

variable (m : (ℓ : Loc nD τ sig) → Buf (Elt Ideal) ℓ) (c : Dev nD)

/-- The kernel's arguments on extended reals. -/
def args : Cert.Spec.Args where
  x := m ((c.tc : Thread nD τ).loc main_arg0)
  kn := m ((c.tc : Thread nD τ).loc main_arg1)
  vn := m ((c.tc : Thread nD τ).loc main_arg2)
  pk := m ((c.tc : Thread nD τ).loc main_arg3)
  ks := m ((c.tc : Thread nD τ).loc main_arg4)
  pv := m ((c.tc : Thread nD τ).loc main_arg5)
  vs := m ((c.tc : Thread nD τ).loc main_arg6)
  tk := m ((c.tc : Thread nD τ).loc main_arg7)
  ts := m ((c.tc : Thread nD τ).loc main_arg8)
  tv := m ((c.tc : Thread nD τ).loc main_arg9)
  us := m ((c.tc : Thread nD τ).loc main_arg10)
  len := m ((c.tc : Thread nD τ).loc main_arg11)

/-! ## Where each window's block lies -/

/-- Window 0's block index is the same at every point. -/
theorem idx0 : ∀ t : Fin cfg0.N, win0_0.index t = ![0] := (by decide +kernel : ∀ t : Fin grid0.N, _)
/-- Window 1's block index is the same at every point. -/
theorem idx1 : ∀ t : Fin cfg0.N, win0_1.index t = ![0, 0] := (by decide +kernel : ∀ t : Fin grid0.N, _)
/-- Window 2's block index is the same at every point. -/
theorem idx2 : ∀ t : Fin cfg0.N, win0_2.index t = ![0, 0, 0] := (by decide +kernel : ∀ t : Fin grid0.N, _)
/-- Window 3's block index is the same at every point. -/
theorem idx3 : ∀ t : Fin cfg0.N, win0_3.index t = ![0, 0, 0] := (by decide +kernel : ∀ t : Fin grid0.N, _)
/-- Window 4's block index is the same at every point. -/
theorem idx4 : ∀ t : Fin cfg0.N, win0_4.index t = ![0, 0] := (by decide +kernel : ∀ t : Fin grid0.N, _)
/-- Window 5's block index runs along the prefix with the point. -/
theorem idx5 : ∀ t : Fin cfg0.N, win0_5.index t = ![0, t.val] := (by decide +kernel : ∀ t : Fin grid0.N, _)
/-- Window 6's block index is the same at every point. -/
theorem idx6 : ∀ t : Fin cfg0.N, win0_6.index t = ![0, 0, 0, 0] := (by decide +kernel : ∀ t : Fin grid0.N, _)
/-- Window 7's block index is the same at every point. -/
theorem idx7 : ∀ t : Fin cfg0.N, win0_7.index t = ![0, 0, 0, 0] := (by decide +kernel : ∀ t : Fin grid0.N, _)
/-- Window 8's block index is the same at every point. -/
theorem idx8 : ∀ t : Fin cfg0.N, win0_8.index t = ![0, 0, 0] := (by decide +kernel : ∀ t : Fin grid0.N, _)
/-- Window 9's block index is the same at every point. -/
theorem idx9 : ∀ t : Fin cfg0.N, win0_9.index t = ![0, 0, 0] := (by decide +kernel : ∀ t : Fin grid0.N, _)
/-- Window 10's block index runs along the prefix with the point. -/
theorem idx10 : ∀ t : Fin cfg0.N, win0_10.index t = ![0, t.val, 0] := (by decide +kernel : ∀ t : Fin grid0.N, _)
/-- Window 11's block index runs along the prefix with the point. -/
theorem idx11 : ∀ t : Fin cfg0.N, win0_11.index t = ![0, t.val, 0] := (by decide +kernel : ∀ t : Fin grid0.N, _)

variable (t : Fin cfg0.N)

/-- The grid has sixteen points. -/
theorem lt16 : t.val < 16 := lt_of_lt_of_eq t.isLt (show cfg0.N = 16 from N_0)

/-- The grid's point as a number of the block of the prefix. -/
def pt : Fin 16 := ⟨t.val, lt16 t⟩

/-- Window 0's block holds the tail lengths. -/
theorem blk0 (b : Fin 8) : (iblk m c 0 t (ix1 b) : BitVec 32) = (args m c).len (ix1 b) := by
  unfold args
  blk_ext [iblk, V, idx0 t]

/-- Window 1's block holds the queries. -/
theorem blk1 (b : Fin 8) (h : Fin 16) (d : Fin 128) : (iblk m c 1 t (ix2 b (⟨128 * h.val + d.val, by omega⟩ : Fin 2048)) : EReal) = (args m c).x (ix4 b 0 h d) := by
  refine (show iblk m c 1 t (ix2 b (⟨128 * h.val + d.val, by omega⟩ : Fin 2048)) = V m c main_v0 (ix2 b (⟨128 * h.val + d.val, by omega⟩ : Fin 2048)) from ?_).trans ?_
  · blk_ext [iblk, idx1 t]
  · show V m c main_v0 (ix2 b (⟨128 * h.val + d.val, by omega⟩ : Fin 2048)) = m ((c.tc : Thread nD τ).loc main_arg0) (ix4 b 0 h d)
    unfold V
    after_reads_at

/-- Window 2's block holds the new keys. -/
theorem blk2 (b : Fin 8) (n : Fin 2) (d : Fin 128) : (iblk m c 2 t (ix3 b n d) : EReal) = (args m c).kn (ix4 b 0 n d) := by
  refine (show iblk m c 2 t (ix3 b n d) = V m c main_v1 (ix3 b n d) from ?_).trans ?_
  · blk_ext [iblk, idx2 t]
  · show V m c main_v1 (ix3 b n d) = m ((c.tc : Thread nD τ).loc main_arg1) (ix4 b 0 n d)
    unfold V
    after_reads_at

/-- Window 3's block holds the new values. -/
theorem blk3 (b : Fin 8) (n : Fin 2) (d : Fin 128) : (iblk m c 3 t (ix3 b n d) : EReal) = (args m c).vn (ix4 b 0 n d) := by
  refine (show iblk m c 3 t (ix3 b n d) = V m c main_v2 (ix3 b n d) from ?_).trans ?_
  · blk_ext [iblk, idx3 t]
  · show V m c main_v2 (ix3 b n d) = m ((c.tc : Thread nD τ).loc main_arg2) (ix4 b 0 n d)
    unfold V
    after_reads_at

/-- Window 6's block holds the tails' keys. -/
theorem blk6 (b : Fin 8) (n : Fin 2) (j : Fin 1024) (d : Fin 128) : (iblk m c 6 t (ix4 b n j d) : EReal) = (args m c).tk (ix4 b j n d) := by
  refine (show iblk m c 6 t (ix4 b n j d) = V m c main_v4 (ix4 b n j d) from ?_).trans ?_
  · blk_ext [iblk, idx6 t]
  · show V m c main_v4 (ix4 b n j d) = m ((c.tc : Thread nD τ).loc main_arg7) (ix4 b j n d)
    unfold V
    after_reads_at

/-- Window 7's block holds the tails' values. -/
theorem blk7 (b : Fin 8) (n : Fin 2) (j : Fin 1024) (d : Fin 128) : (iblk m c 7 t (ix4 b n j d) : EReal) = (args m c).tv (ix4 b j n d) := by
  refine (show iblk m c 7 t (ix4 b n j d) = V m c main_v5 (ix4 b n j d) from ?_).trans ?_
  · blk_ext [iblk, idx7 t]
  · show V m c main_v5 (ix4 b n j d) = m ((c.tc : Thread nD τ).loc main_arg9) (ix4 b j n d)
    unfold V
    after_reads_at

/-- Window 8's block holds the tails' key scales. -/
theorem blk8 (b : Fin 8) (n : Fin 2) (j : Fin 1024) : (iblk m c 8 t (ix3 b n j) : EReal) = (args m c).ts (ix3 b j n) := by
  refine (show iblk m c 8 t (ix3 b n j) = V m c main_v6 (ix3 b n j) from ?_).trans ?_
  · blk_ext [iblk, idx8 t]
  · show V m c main_v6 (ix3 b n j) = m ((c.tc : Thread nD τ).loc main_arg8) (ix3 b j n)
    unfold V
    after_reads_at

/-- Window 9's block holds the tails' value scales. -/
theorem blk9 (b : Fin 8) (n : Fin 2) (j : Fin 1024) : (iblk m c 9 t (ix3 b n j) : EReal) = (args m c).us (ix3 b j n) := by
  refine (show iblk m c 9 t (ix3 b n j) = V m c main_v7 (ix3 b n j) from ?_).trans ?_
  · blk_ext [iblk, idx9 t]
  · show V m c main_v7 (ix3 b n j) = m ((c.tc : Thread nD τ).loc main_arg10) (ix3 b j n)
    unfold V
    after_reads_at

/-- Window 5's block holds the prefix values' scales, of the point's positions. -/
theorem blk5 (n : Fin 2) (j : Fin 4096) : (iblk m c 5 t (ix2 n j) : EReal) = (args m c).vs (ix2 (⟨4096 * (pt t).val + j.val, by omega⟩ : Fin 65536) n) := by
  refine (show iblk m c 5 t (ix2 n j) = V m c main_v3 (ix2 n (⟨4096 * (pt t).val + j.val, by omega⟩ : Fin 65536)) from ?_).trans ?_
  · blk_ext [iblk, idx5 t, pt]
  · show V m c main_v3 (ix2 n (⟨4096 * (pt t).val + j.val, by omega⟩ : Fin 65536)) = m ((c.tc : Thread nD τ).loc main_arg6) (ix2 (⟨4096 * (pt t).val + j.val, by omega⟩ : Fin 65536) n)
    unfold V
    after_reads_at

/-- Window 10's block holds the prefix keys of the point's positions. -/
theorem blk10 (n : Fin 2) (j : Fin 4096) (d : Fin 128) : (iblk m c 10 t (ix3 n j d) : EReal) = (args m c).pk (ix3 (⟨4096 * (pt t).val + j.val, by omega⟩ : Fin 65536) n d) := by
  refine (show iblk m c 10 t (ix3 n j d) = V m c main_v8 (ix3 n (⟨4096 * (pt t).val + j.val, by omega⟩ : Fin 65536) d) from ?_).trans ?_
  · blk_ext [iblk, idx10 t, pt]
  · show V m c main_v8 (ix3 n (⟨4096 * (pt t).val + j.val, by omega⟩ : Fin 65536) d) = m ((c.tc : Thread nD τ).loc main_arg3) (ix3 (⟨4096 * (pt t).val + j.val, by omega⟩ : Fin 65536) n d)
    unfold V
    after_reads_at

/-- Window 11's block holds the prefix values of the point's positions. -/
theorem blk11 (n : Fin 2) (j : Fin 4096) (d : Fin 128) : (iblk m c 11 t (ix3 n j d) : EReal) = (args m c).pv (ix3 (⟨4096 * (pt t).val + j.val, by omega⟩ : Fin 65536) n d) := by
  refine (show iblk m c 11 t (ix3 n j d) = V m c main_v9 (ix3 n (⟨4096 * (pt t).val + j.val, by omega⟩ : Fin 65536) d) from ?_).trans ?_
  · blk_ext [iblk, idx11 t, pt]
  · show V m c main_v9 (ix3 n (⟨4096 * (pt t).val + j.val, by omega⟩ : Fin 65536) d) = m ((c.tc : Thread nD τ).loc main_arg5) (ix3 (⟨4096 * (pt t).val + j.val, by omega⟩ : Fin 65536) n d)
    unfold V
    after_reads_at

/-- Window 4's block holds the prefix keys' scales. -/
theorem blk4 (n : Fin 2) (d : Fin 128) : (iblk m c 4 t (ix2 n d) : EReal) = (args m c).ks (ix2 n d) := by
  unfold args
  blk_ext [iblk, V, idx4 t]

/-- The blocks that do not move. -/
theorem winsT : WinsT (args m c) (iblk m c 0 t) (iblk m c 1 t) (iblk m c 2 t) (iblk m c 3 t) (iblk m c 6 t) (iblk m c 7 t) (iblk m c 8 t) (iblk m c 9 t) where
  len := blk0 m c t
  x := blk1 m c t
  kn := blk2 m c t
  vn := blk3 m c t
  tk := blk6 m c t
  tv := blk7 m c t
  ts := blk8 m c t
  us := blk9 m c t

/-- The blocks of the prefix at a point. -/
theorem winsP : WinsP (args m c) (pt t) (iblk m c 5 t) (iblk m c 10 t) (iblk m c 11 t) where
  vs := blk5 m c t
  pk := blk10 m c t
  pv := blk11 m c t

end Cert.KernelIdeal.Value

end
-- ==== Proof.Value.Run.lean ====
/- The kernel's run: its result array is the attention of its arguments. -/
module

public import proofs.«01_k».proof.Proof.Value.Blocks

@[expose] public section

set_option maxRecDepth 16384

noncomputable section

namespace Cert.KernelIdeal.Value

open Cert.KernelIdeal Cert.KernelIdeal.Gen Cert.KernelIdeal.Hand Idealize.ShloMosaic Idealize.ShloMosaic.TcCoe Idealize.SL.Sem
open Cert.Spec (Args hd live)
open Cert.Softmax

variable (m : (ℓ : Loc nD τ sig) → Buf (Elt Ideal) ℓ) (c : Dev nD)

/-! ## What the scratch buffers hold after each point -/

/-- The scratch buffers after point `k`: the queries times the key scales, and every row's state after the first `k + 1`
    blocks of the prefix. -/
structure Inv (k : ℕ) (hk : k < cfg0.N) : Prop where
  query : QOk (args m c) (outsAt0 m c k hk).2.1
  row : ∀ (n : Fin 2) (g b : Fin 8), RowAt (args m c) n g b (4096 * (k + 1)) (outsAt0 m c k hk).2.2.1 (outsAt0 m c k hk).2.2.2.1 (outsAt0 m c k hk).2.2.2.2

/-- The buffers after the first point. -/
theorem inv_first (t : Fin cfg0.N) (h : t.val = 0) : Inv m c t.val t.isLt := by
  have h0 : t.val % 16 = 0 := by omega
  have h1 : ¬t.val % 16 = 15 := by omega
  have hQ := initK_ok (args m c) (iblk m c 1 t) (iblk m c 4 t) (blk1 m c t) (blk4 m c t)
  constructor
  · rw [outsAt0_A m c t h0 h1]
    dsimp only
    rw [scratchA_1, pieces_K]
    exact hQ
  · intro n g b
    rw [outsAt0_A m c t h0 h1]
    dsimp only
    rw [scratchA_2, scratchA_3, scratchA_4, pieces_K, stores_M, stores_L, stores_A]
    have hr := row_init (winsT m c t) n g b
    exact (block_step (i := pt t) hQ (winsP m c t) (by rw [show 4096 * (pt t).val = 0 from by show 4096 * t.val = 0; omega]; exact hr)).1

/-- The buffers after a later point: what one block of the prefix makes of the buffers before it. -/
theorem outs_step (t : Fin cfg0.N) (h : ¬t.val % 16 = 0) (P) (hP : P = outsAt0 m c (t.val - 1) (Nat.lt_of_le_of_lt (Nat.sub_le _ _) t.isLt)) :
    (outsAt0 m c t.val t.isLt).2 = (P.2.1, preM (ldP 0 (iblk m c 10 t)) (ldP 1 (iblk m c 10 t)) P.2.1 P.2.2.1,
      preL (ldP 0 (iblk m c 10 t)) (ldP 1 (iblk m c 10 t)) P.2.1 P.2.2.1 P.2.2.2.1,
      preA (ldP 0 (iblk m c 10 t)) (ldP 1 (iblk m c 10 t)) (ldP 0 (iblk m c 11 t)) (ldP 1 (iblk m c 11 t)) P.2.1 (ldV 0 (iblk m c 5 t)) (ldV 1 (iblk m c 5 t))
        P.2.2.1 P.2.2.2.2) := by
  subst hP
  by_cases h1 : t.val % 16 = 15
  · rw [outsAt0_C m c t h h1]
    dsimp only
    rw [scratchC_1, scratchC_2, scratchC_3, scratchC_4]
  · rw [outsAt0_B m c t h h1]
    dsimp only
    rw [scratchB_1, scratchB_2, scratchB_3, scratchB_4]

/-- The buffers after every point, by induction on the points. -/
theorem inv : ∀ (k : ℕ) (hk : k < cfg0.N), Inv m c k hk
  | 0, hk => inv_first m c ⟨0, hk⟩ rfl
  | k + 1, hk => by
    have ih := inv k (Nat.lt_of_succ_lt hk)
    have h16 := lt16 ⟨k + 1, hk⟩
    have e := outs_step m c ⟨k + 1, hk⟩ (by show ¬(k + 1) % 16 = 0; have : k + 1 < 16 := h16; omega) _ rfl
    have e' : (outsAt0 m c (k + 1) hk).2 = _ := e
    constructor
    · rw [e']; exact ih.query
    · intro n g b
      rw [e']
      exact (block_step (i := pt ⟨k + 1, hk⟩) ih.query (winsP m c ⟨k + 1, hk⟩) (ih.row n g b)).1

/-! ## The result -/

/-- The normalised row: the accumulated values times the inverse of the sum of the weights. -/
theorem norm_apply (L Acc : Vec Ideal S128x128 .f32) (r d : Fin 128) :
    (k0_pay228 (F := Ideal) L Acc (ix2 r d) : EReal) = (Acc (ix2 r d) : EReal) * Ideal.div 1 (∑ x : Fin 128, (L (ix2 r x) : EReal)) := by
  pointwise [k0_pay228]

/-- The scale for the base 2 is the softmax scale times the factor between the bases. -/
theorem scale2_eq : scale2 = Cert.Spec.SM * (κ₂ : EReal) := by
  have h : Cert.Spec.SM = ((11863283 / 134217728 : ℝ) : EReal) := by
    unfold Cert.Spec.SM
    simp [Ideal.ofBits, Ideal.ieee, -EReal.coe_mul]
    norm_num
  rw [h, ← EReal.coe_mul]
  rfl

/-- A row's final sums, divided, are the attention's result. -/
theorem row_result {A : Args} {n : Fin 2} {g b : Fin 8} {L Acc : Vec Ideal S128x128 .f32} (h : RowEnd A n g b 65536 L Acc) (d : Fin 128) :
    (k0_pay228 (F := Ideal) L Acc (ix2 (rowIx n g b) d) : EReal) = Cert.Spec.out A n b g d := by
  obtain ⟨mm, hM, hL, hA⟩ := h
  rw [norm_apply]
  unfold Cert.Spec.out Cert.Spec.gden
  refine result (n := 65536) (rN := Cert.Spec.rN A n b g) (rT := Cert.Spec.rT A n b g) (rP := Cert.Spec.rP A n b g)
    (xT := fun t => A.us (ix3 b t n)) (yT := fun t => A.tv (ix4 b t n d)) (xP := fun p => A.vs (ix2 p n)) (yP := fun p => A.pv (ix3 p n d))
    (M := mm) ?_ ?_ ?_ (fun _ => rfl) ?_ hM hL (hA d) rfl rfl
  · unfold sN Cert.Spec.rN
    rw [scale2_eq, mul_assoc]
  · intro t
    unfold sT Cert.Spec.rT Scalar.select
    split
    · rw [scale2_eq, mul_assoc, mul_assoc, mul_assoc]
    · exact (EReal.bot_mul_coe_of_pos κ₂_pos).symm
  · intro p
    unfold sP Cert.Spec.rP
    rw [dif_pos p.isLt, scale2_eq, mul_assoc]
  · intro p
    exact dif_pos p.isLt

/-- The result array of the kernel, at coordinates. -/
def res (A : Args) (b : Fin 8) (j : Fin 2048) : EReal :=
  Cert.Spec.out A ⟨j.val / 1024, by omega⟩ b ⟨j.val / 128 % 8, by omega⟩ ⟨j.val % 128, by omega⟩

/-- What the last point leaves in the result's block. -/
theorem last_block (t : Fin cfg0.N) (h : t.val = 15) (b : Fin 8) (j : Fin 2048) :
    ((outsAt0 m c t.val t.isLt).1 (ix2 b j) : EReal) = res (args m c) b j := by
  rw [outsAt0_C m c t (by omega) (by omega)]
  dsimp only
  rw [block_C]
  have hi := inv m c (t.val - 1) (Nat.lt_of_le_of_lt (Nat.sub_le _ _) t.isLt)
  have hr := (block_step (i := pt t) hi.query (winsP m c t)
    (n := ⟨j.val / 1024, by omega⟩) (g := ⟨j.val / 128 % 8, by omega⟩) (b := b)
    (by have := hi.row ⟨j.val / 1024, by omega⟩ ⟨j.val / 128 % 8, by omega⟩ b
        rwa [show 4096 * (t.val - 1 + 1) = 4096 * (pt t).val from by show _ = 4096 * t.val; omega] at this)).2
  rw [show 4096 * ((pt t).val + 1) = 65536 from by show 4096 * (t.val + 1) = 65536; omega] at hr
  have e := row_result hr ⟨j.val % 128, by omega⟩
  rw [show rowIx ⟨j.val / 1024, by omega⟩ ⟨j.val / 128 % 8, by omega⟩ b = (⟨8 * (j.val / 128) + b.val, by omega⟩ : Fin 128) from
    Fin.ext (by show 64 * (j.val / 1024) + (8 * (j.val / 128 % 8) + b.val) = 8 * (j.val / 128) + b.val; omega)] at e
  exact e

/-- The last point. -/
def tLast : Fin cfg0.N := ⟨15, by rw [show cfg0.N = 16 from N_0]; omega⟩

/-- The result array after the run. -/
theorem arr_eq : (dats m 0 c).arrAt 12 cfg0.N = (fun i => res (args m c) (i 0) (i 1) : S8x2048.Idx → EReal) := by
  refine (dats m 0 c).arrAt_eq_of_after_last 12 tLast (by decide +kernel) _ fun j => ?_
  blk_simp
  rw [after0_12]
  refine (congrArg (outsAt0 m c tLast.val tLast.isLt).1 (eq_ix2 _)).trans (last_block m c tLast rfl _ _)

/-- The kernel's run: the result array is the attention of the arguments, and the arguments end unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v10) = (fun i => res (args m c) (i 0) (i 1) : S8x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  have hv : θ_run defs (onTc (τ := τ) (main (F := Ideal))) ⟨m, fun _ => 0, ρ⟩ (fun r => ∀ c : Dev nD,
      r.2.mem ((c.tc : Thread nD τ).loc main_v10) = (fun i => res (args m c) (i 0) (i 1) : S8x2048.Idx → EReal)) :=
    (θ_run defs _ _).mono (fun _ h c => ((h c).1 12).trans (arr_eq m c)) (run_main m ρ)
  (θ_run defs _ _).mono (fun _ h c => ⟨h.1 c, h.2 c⟩) (θ_run_and hv (unchanged m ρ))

end Cert.KernelIdeal.Value
-- ==== Proof.Value.Ref.lean ====
/- The reference's values at coordinates, on extended reals. -/
module

public import proofs.«01_k».proof.Proof.Gen.ReferenceIdeal.Run
public import proofs.«01_k».proof.Proof.Value.Spec

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable (V0 : Valuation τ sig (Elt Ideal))

/-- The reference's arguments, its four caches widened, in a valuation. -/
def argsR : Cert.Spec.Args where
  x := V0 (Proc.devRef .tc main_arg0)
  kn := V0 (Proc.devRef .tc main_arg1)
  vn := V0 (Proc.devRef .tc main_arg2)
  pk := V0 (Proc.devRef .tc main_v0_0)
  ks := V0 (Proc.devRef .tc main_arg4)
  pv := V0 (Proc.devRef .tc main_v0_1)
  vs := V0 (Proc.devRef .tc main_arg6)
  tk := V0 (Proc.devRef .tc main_v0_2)
  ts := V0 (Proc.devRef .tc main_arg8)
  tv := V0 (Proc.devRef .tc main_v0_3)
  us := V0 (Proc.devRef .tc main_arg10)
  len := V0 (Proc.devRef .tc main_arg11)

/-- The first eight query heads belong to the first key-value head. -/
theorem hd_0 {g : Fin 8} (h : g.val < 16) : (⟨g.val, h⟩ : Fin 16) = Cert.Spec.hd 0 g := Fin.ext (by simp [Cert.Spec.hd])

/-- The last eight query heads belong to the second key-value head. -/
theorem hd_1 {g : Fin 8} (h : 8 + g.val < 16) : (⟨8 + g.val, h⟩ : Fin 16) = Cert.Spec.hd 1 g := Fin.ext (by simp [Cert.Spec.hd])

/-- The prefix scores of head 0. -/
theorem v17_apply (b : Fin 8) (g : Fin 8) (p : Fin 65536) :
    res_main_v17 V0 (ix4 b 0 g p) = Cert.Spec.rP (argsR V0) 0 b g p := by
  pointwise [res_main_v17, res_main_v2, res_main_v3]
  simp only [hd_0]
  rfl

/-- The prefix scores of head 1. -/
theorem v31_apply (b : Fin 8) (g : Fin 8) (p : Fin 65536) :
    res_main_v31 V0 (ix4 b 0 g p) = Cert.Spec.rP (argsR V0) 1 b g p := by
  pointwise [res_main_v31, res_main_v2, res_main_v3]
  simp only [hd_1]
  rfl

/-- The tail scores. -/
theorem v46_apply (n : Fin 2) (b : Fin 8) (g : Fin 8) (p : Fin 1024) :
    res_main_v46 V0 (ix5 n b 0 g p) = Cert.Spec.rT (argsR V0) n b g p := by
  pointwise [res_main_v46, res_main_v2, res_main_v3]
  rw [show (id (constant (F := Ideal) S_ .f32 4286578688#32) ix0) = ⊥ from Cert.Maxima.negInf]
  rfl

/-- The new position's score. -/
theorem v56_apply (n : Fin 2) (b : Fin 8) (g : Fin 8) (p : Fin 1) :
    res_main_v56 V0 (ix5 n b 0 g p) = Cert.Spec.rN (argsR V0) n b g := by
  obtain rfl : p = 0 := Subsingleton.elim _ _
  pointwise [res_main_v56, res_main_v2, res_main_v3]
  rw [show IntOp.cmpi .sle 0#32 0#32 = 1#1 from by decide]
  exact if_pos rfl

/-- How the maxima of head 0 combine. -/
theorem v67_shape (R1 : FVec Ideal S8x1x8 .f32) (R2 R3 : FVec Ideal S2x8x1x8 .f32) (b : Fin 8) (g : Fin 8) :
    (maximumf (broadcastInDim S8x1x8x1 ![0, 1, 2] bcast_S8x1x8_S8x1x8x1_0_1_2 R1)
      (shapeCast _ (extractStridedSlice S1x8x1x8x1 ![0, 0, 0, 0, 0]
        (maximumf (broadcastInDim S2x8x1x8x1 ![0, 1, 2, 3] bcast_S2x8x1x8_S2x8x1x8x1_0_1_2_3 R2)
          (broadcastInDim S2x8x1x8x1 ![0, 1, 2, 3] bcast_S2x8x1x8_S2x8x1x8x1_0_1_2_3 R3))
        slices_S2x8x1x8x1_S1x8x1x8x1_0_0_0_0_0) shapeCasts_S1x8x1x8x1_S8x1x8x1)) (ix4 b 0 g 0)
      = (R1 (ix3 b 0 g) : EReal) ⊔ ((R2 (ix4 0 b 0 g) : EReal) ⊔ R3 (ix4 0 b 0 g)) := by
  pointwise

/-- The greatest score of a row of head 0. -/
theorem v67_apply (b : Fin 8) (g : Fin 8) : res_main_v67 V0 (ix4 b 0 g 0) = Cert.Spec.top (argsR V0) 0 b g := by
  have h1 := Cert.Maxima.host4 (a := 8) (b := 1) (c := 8) (n := 65536) (res_main_v17 V0) (constant S_ .f32 0xFF800000#32)
    reducesTo_S8x1x8x65536_S8x1x8_d3 h_S_ b 0 g Cert.Maxima.negInf _ fun p => v17_apply V0 b g p
  have h2 := Cert.Maxima.host5 (z := 2) (a := 8) (b := 1) (c := 8) (n := 1024) (res_main_v46 V0) (constant S_ .f32 0xFF800000#32)
    reducesTo_S2x8x1x8x1024_S2x8x1x8_d4 h_S_ 0 b 0 g Cert.Maxima.negInf _ fun p => v46_apply V0 0 b g p
  have h3 := Cert.Maxima.host5 (z := 2) (a := 8) (b := 1) (c := 8) (n := 1) (res_main_v56 V0) (constant S_ .f32 0xFF800000#32)
    reducesTo_S2x8x1x8x1_S2x8x1x8_d4 h_S_ 0 b 0 g Cert.Maxima.negInf _ fun p => v56_apply V0 0 b g p
  rw [Finset.sup_const Finset.univ_nonempty] at h3
  refine (v67_shape _ _ _ b g).trans ?_
  rw [Cert.Spec.top]
  exact congr (congrArg _ h1) (congr (congrArg _ h2) h3)

/-- How the maxima of head 1 combine. -/
theorem v112_shape (R1 : FVec Ideal S8x1x8 .f32) (R2 R3 : FVec Ideal S2x8x1x8 .f32) (b : Fin 8) (g : Fin 8) :
    (maximumf (broadcastInDim S8x1x8x1 ![0, 1, 2] bcast_S8x1x8_S8x1x8x1_0_1_2 R1)
      (shapeCast _ (extractStridedSlice S1x8x1x8x1 ![1, 0, 0, 0, 0]
        (maximumf (broadcastInDim S2x8x1x8x1 ![0, 1, 2, 3] bcast_S2x8x1x8_S2x8x1x8x1_0_1_2_3 R2)
          (broadcastInDim S2x8x1x8x1 ![0, 1, 2, 3] bcast_S2x8x1x8_S2x8x1x8x1_0_1_2_3 R3))
        slices_S2x8x1x8x1_S1x8x1x8x1_1_0_0_0_0) shapeCasts_S1x8x1x8x1_S8x1x8x1)) (ix4 b 0 g 0)
      = (R1 (ix3 b 0 g) : EReal) ⊔ ((R2 (ix4 1 b 0 g) : EReal) ⊔ R3 (ix4 1 b 0 g)) := by
  pointwise

/-- The greatest score of a row of head 1. -/
theorem v112_apply (b : Fin 8) (g : Fin 8) : res_main_v112 V0 (ix4 b 0 g 0) = Cert.Spec.top (argsR V0) 1 b g := by
  have h1 := Cert.Maxima.host4 (a := 8) (b := 1) (c := 8) (n := 65536) (res_main_v31 V0) (constant S_ .f32 0xFF800000#32)
    reducesTo_S8x1x8x65536_S8x1x8_d3 h_S_ b 0 g Cert.Maxima.negInf _ fun p => v31_apply V0 b g p
  have h2 := Cert.Maxima.host5 (z := 2) (a := 8) (b := 1) (c := 8) (n := 1024) (res_main_v46 V0) (constant S_ .f32 0xFF800000#32)
    reducesTo_S2x8x1x8x1024_S2x8x1x8_d4 h_S_ 1 b 0 g Cert.Maxima.negInf _ fun p => v46_apply V0 1 b g p
  have h3 := Cert.Maxima.host5 (z := 2) (a := 8) (b := 1) (c := 8) (n := 1) (res_main_v56 V0) (constant S_ .f32 0xFF800000#32)
    reducesTo_S2x8x1x8x1_S2x8x1x8_d4 h_S_ 1 b 0 g Cert.Maxima.negInf _ fun p => v56_apply V0 1 b g p
  rw [Finset.sup_const Finset.univ_nonempty] at h3
  refine (v112_shape _ _ _ b g).trans ?_
  rw [Cert.Spec.top]
  exact congr (congrArg _ h1) (congr (congrArg _ h2) h3)

/-- The guarded sum of the weights of a row of head 0. -/
theorem v90_apply (b : Fin 8) (g : Fin 8) : res_main_v90 V0 (ix4 b 0 g 0) = Cert.Spec.gden (argsR V0) 0 b g := by
  pointwise [res_main_v90, res_main_v87, res_main_v70, res_main_v75, res_main_v79]
  simp only [v17_apply, v46_apply, v56_apply, v67_apply]
  rw [Fin.sum_univ_one, v67_apply, show (id (constant (F := Ideal) S_ .f32 1065353216#32) ix0) = 1 from Ideal.ofBits_one_f32]
  rw [Cert.Spec.gden, Cert.Spec.den]

/-- The guarded sum of the weights of a row of head 1. -/
theorem v135_apply (b : Fin 8) (g : Fin 8) : res_main_v135 V0 (ix4 b 0 g 0) = Cert.Spec.gden (argsR V0) 1 b g := by
  pointwise [res_main_v135, res_main_v132, res_main_v115, res_main_v120, res_main_v124]
  simp only [v31_apply, v46_apply, v56_apply, v112_apply]
  rw [Fin.sum_univ_one, v112_apply, show (id (constant (F := Ideal) S_ .f32 1065353216#32) ix0) = 1 from Ideal.ofBits_one_f32]
  rw [Cert.Spec.gden, Cert.Spec.den]

/-- The result before the last transpose: head, sequence, step, group member, feature. -/
def mid (pv : FVec Ideal S65536x2x128 .bf16) (tv : FVec Ideal S8x1024x2x128 .bf16) (vn : FVec Ideal S8x1x2x128 .bf16) : FVec Ideal S2x8x1x8x128 .f32 :=
  (addf (addf (concatenate S2x8x1x8x128 0 [⟨S1x8x1x8x128, (broadcastInDim S1x8x1x8x128 ![1, 2, 3, 4] bcast_S8x1x8x128_S1x8x1x8x128_1_2_3_4 (shapeCast _ (Host.dotGeneral dot_S64x65536_S65536x128_S64x128_1_0_0_1_n_n none (shapeCast _ (truncf .bf16 (mulf (Host.divf (res_main_v70 V0) (broadcastInDim S8x1x8x65536 ![0, 1, 2, 3] bcast_S8x1x8x1_S8x1x8x65536_0_1_2_3 (res_main_v90 V0))) (broadcastInDim S8x1x8x65536 ![0, 1, 2, 3] bcast_S1x1x1x65536_S8x1x8x65536_0_1_2_3 (broadcastInDim S1x1x1x65536 ![3] bcast_S65536_S1x1x1x65536_3 (shapeCast _ (extractStridedSlice S1x65536 ![0, 0] (res_main_v62 V0) slices_S2x65536_S1x65536_0_0) shapeCasts_S1x65536_S65536)))) bitsLt_bf16_f32) shapeCasts_S8x1x8x65536_S64x65536) (shapeCast _ (extractStridedSlice S65536x1x128 ![0, 0, 0] pv slices_S65536x2x128_S65536x1x128_0_0_0) shapeCasts_S65536x1x128_S65536x128)) shapeCasts_S64x128_S8x1x8x128))⟩, ⟨S1x8x1x8x128, (broadcastInDim S1x8x1x8x128 ![1, 2, 3, 4] bcast_S8x1x8x128_S1x8x1x8x128_1_2_3_4 (shapeCast _ (Host.dotGeneral dot_S64x65536_S65536x128_S64x128_1_0_0_1_n_n none (shapeCast _ (truncf .bf16 (mulf (Host.divf (res_main_v115 V0) (broadcastInDim S8x1x8x65536 ![0, 1, 2, 3] bcast_S8x1x8x1_S8x1x8x65536_0_1_2_3 (res_main_v135 V0))) (broadcastInDim S8x1x8x65536 ![0, 1, 2, 3] bcast_S1x1x1x65536_S8x1x8x65536_0_1_2_3 (broadcastInDim S1x1x1x65536 ![3] bcast_S65536_S1x1x1x65536_3 (shapeCast _ (extractStridedSlice S1x65536 ![1, 0] (res_main_v62 V0) slices_S2x65536_S1x65536_1_0) shapeCasts_S1x65536_S65536)))) bitsLt_bf16_f32) shapeCasts_S8x1x8x65536_S64x65536) (shapeCast _ (extractStridedSlice S65536x1x128 ![0, 1, 0] pv slices_S65536x2x128_S65536x1x128_0_1_0) shapeCasts_S65536x1x128_S65536x128)) shapeCasts_S64x128_S8x1x8x128))⟩] concatenates_S1x8x1x8x128_S1x8x1x8x128_S2x8x1x8x128_d0) (Host.dotGeneral dot_S2x8x1x8x1024_S8x1024x2x128_S2x8x1x8x128_4_1_23_3_01_20 none (truncf .bf16 (mulf (concatenate S2x8x1x8x1024 0 [⟨S1x8x1x8x1024, (broadcastInDim S1x8x1x8x1024 ![1, 2, 3, 4] bcast_S8x1x8x1024_S1x8x1x8x1024_1_2_3_4 (Host.divf (res_main_v75 V0) (broadcastInDim S8x1x8x1024 ![0, 1, 2, 3] bcast_S8x1x8x1_S8x1x8x1024_0_1_2_3 (res_main_v90 V0))))⟩, ⟨S1x8x1x8x1024, (broadcastInDim S1x8x1x8x1024 ![1, 2, 3, 4] bcast_S8x1x8x1024_S1x8x1x8x1024_1_2_3_4 (Host.divf (res_main_v120 V0) (broadcastInDim S8x1x8x1024 ![0, 1, 2, 3] bcast_S8x1x8x1_S8x1x8x1024_0_1_2_3 (res_main_v135 V0))))⟩] concatenates_S1x8x1x8x1024_S1x8x1x8x1024_S2x8x1x8x1024_d0) (broadcastInDim S2x8x1x8x1024 ![0, 1, 2, 3, 4] bcast_S2x8x1x1x1024_S2x8x1x8x1024_0_1_2_3_4 (broadcastInDim S2x8x1x1x1024 ![0, 1, 4] bcast_S2x8x1024_S2x8x1x1x1024_0_1_4 (transpose S2x8x1024 [2, 0, 1] (V0 (Proc.devRef .tc main_arg10)) transposes_S8x1024x2_S2x8x1024_2_0_1)))) bitsLt_bf16_f32) tv)) (Host.dotGeneral dot_S2x8x1x8x1_S8x1x2x128_S2x8x1x8x128_4_1_23_3_01_20 none (concatenate S2x8x1x8x1 0 [⟨S1x8x1x8x1, (broadcastInDim S1x8x1x8x1 ![1, 2, 3, 4] bcast_S8x1x8x1_S1x8x1x8x1_1_2_3_4 (truncf .bf16 (Host.divf (res_main_v79 V0) (res_main_v90 V0)) bitsLt_bf16_f32))⟩, ⟨S1x8x1x8x1, (broadcastInDim S1x8x1x8x1 ![1, 2, 3, 4] bcast_S8x1x8x1_S1x8x1x8x1_1_2_3_4 (truncf .bf16 (Host.divf (res_main_v124 V0) (res_main_v135 V0)) bitsLt_bf16_f32))⟩] concatenates_S1x8x1x8x1_S1x8x1x8x1_S2x8x1x8x1_d0) vn))

/-- The last transpose and reshape. -/
theorem last_apply (o : FVec Ideal S2x8x1x8x128 .f32) (b : Fin 8) (j : Fin 2048) :
    (truncf .bf16 (shapeCast _ (transpose S8x1x2x8x128 [1, 2, 0, 3, 4] o transposes_S2x8x1x8x128_S8x1x2x8x128_1_2_0_3_4) shapeCasts_S8x1x2x8x128_S8x2048) bitsLt_bf16_f32 : FVec Ideal S8x2048 .bf16) (ix2 b j)
      = o (ix5 ⟨j.val / 1024, by omega⟩ b 0 ⟨j.val / 128 % 8, by omega⟩ ⟨j.val % 128, by omega⟩) := by
  pointwise

/-- The result of head 0 at coordinates. -/
theorem mid_apply0 (b : Fin 8) (g : Fin 8) (d : Fin 128) :
    mid V0 (V0 (Proc.devRef .tc main_v0_1)) (V0 (Proc.devRef .tc main_v0_3)) (V0 (Proc.devRef .tc main_arg2)) (ix5 0 b 0 g d)
      = Cert.Spec.out (argsR V0) 0 b g d := by
  pointwise [mid, res_main_v70, res_main_v75, res_main_v79, res_main_v62]
  simp only [v17_apply, v46_apply, v56_apply, v67_apply, v90_apply]
  rw [Fin.sum_univ_one, Cert.Spec.out]
  rfl

/-- The result of head 1 at coordinates. -/
theorem mid_apply1 (b : Fin 8) (g : Fin 8) (d : Fin 128) :
    mid V0 (V0 (Proc.devRef .tc main_v0_1)) (V0 (Proc.devRef .tc main_v0_3)) (V0 (Proc.devRef .tc main_arg2)) (ix5 1 b 0 g d)
      = Cert.Spec.out (argsR V0) 1 b g d := by
  pointwise [mid, res_main_v115, res_main_v120, res_main_v124, res_main_v62]
  simp only [v31_apply, v46_apply, v56_apply, v112_apply, v135_apply]
  rw [Fin.sum_univ_one, Cert.Spec.out]
  rfl

/-- The result of either head at coordinates. -/
theorem mid_apply (n : Fin 2) (b : Fin 8) (g : Fin 8) (d : Fin 128) :
    mid V0 (V0 (Proc.devRef .tc main_v0_1)) (V0 (Proc.devRef .tc main_v0_3)) (V0 (Proc.devRef .tc main_arg2)) (ix5 n b 0 g d)
      = Cert.Spec.out (argsR V0) n b g d := by
  match n with
  | 0 => exact mid_apply0 V0 b g d
  | 1 => exact mid_apply1 V0 b g d

end Cert.ReferenceIdeal.Value

end
-- ==== Proof.Value.RefRun.lean ====
/- The reference's run: its result array is the attention of its arguments. -/
module

public import proofs.«01_k».proof.Proof.Value.Ref

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

/-- The cast of the prefix keys reads the whole array. -/
theorem idx0 : ∀ t : Fin cfg0.N, win0_0.index t = ![0, 0, 0] := (by decide +kernel : ∀ t : Fin grid0.N, _)

/-- The widened prefix keys are the prefix keys. -/
theorem reg0 (c : Dev nD) : reg_main_v0_0 m c = (m ((c.tc : Thread nD τ).loc main_arg3) : S65536x2x128.Idx → EReal) := by
  refine (Gen.dats m 0 c).arrAt_eq_of_after_last 4 t0_0 (by decide +kernel) _ fun j => ?_
  blk_simp
  rw [after0_4]; frame_out
  refine (congrFun (congrArg k0_pay1 (funext fun i => ?_)) j : k0_pay1 (F := Ideal) (iblk m c 0 t0_0) j = k0_pay1 (F := Ideal) (m ((c.tc : Thread nD τ).loc main_arg3)) j)
  blk_ext [iblk, V, idx0 t0_0]

/-- The cast of the prefix values reads the whole array. -/
theorem idx1 : ∀ t : Fin cfg0.N, win0_1.index t = ![0, 0, 0] := (by decide +kernel : ∀ t : Fin grid0.N, _)

/-- The widened prefix values are the prefix values. -/
theorem reg1 (c : Dev nD) : reg_main_v0_1 m c = (m ((c.tc : Thread nD τ).loc main_arg5) : S65536x2x128.Idx → EReal) := by
  refine (Gen.dats m 0 c).arrAt_eq_of_after_last 5 t0_0 (by decide +kernel) _ fun j => ?_
  blk_simp
  rw [after0_5]; frame_out
  refine (congrFun (congrArg k0_pay2 (funext fun i => ?_)) j : k0_pay2 (F := Ideal) (iblk m c 1 t0_0) j = k0_pay2 (F := Ideal) (m ((c.tc : Thread nD τ).loc main_arg5)) j)
  blk_ext [iblk, V, idx1 t0_0]

/-- The cast of the tail keys reads the whole array. -/
theorem idx2 : ∀ t : Fin cfg0.N, win0_2.index t = ![0, 0, 0, 0] := (by decide +kernel : ∀ t : Fin grid0.N, _)

/-- The widened tail keys are the tail keys. -/
theorem reg2 (c : Dev nD) : reg_main_v0_2 m c = (m ((c.tc : Thread nD τ).loc main_arg7) : S8x1024x2x128.Idx → EReal) := by
  refine (Gen.dats m 0 c).arrAt_eq_of_after_last 6 t0_0 (by decide +kernel) _ fun j => ?_
  blk_simp
  rw [after0_6]; frame_out
  refine (congrFun (congrArg k0_pay3 (funext fun i => ?_)) j : k0_pay3 (F := Ideal) (iblk m c 2 t0_0) j = k0_pay3 (F := Ideal) (m ((c.tc : Thread nD τ).loc main_arg7)) j)
  blk_ext [iblk, V, idx2 t0_0]

/-- The cast of the tail values reads the whole array. -/
theorem idx3 : ∀ t : Fin cfg0.N, win0_3.index t = ![0, 0, 0, 0] := (by decide +kernel : ∀ t : Fin grid0.N, _)

/-- The widened tail values are the tail values. -/
theorem reg3 (c : Dev nD) : reg_main_v0_3 m c = (m ((c.tc : Thread nD τ).loc main_arg9) : S8x1024x2x128.Idx → EReal) := by
  refine (Gen.dats m 0 c).arrAt_eq_of_after_last 7 t0_0 (by decide +kernel) _ fun j => ?_
  blk_simp
  rw [after0_7]; frame_out
  refine (congrFun (congrArg k0_pay4 (funext fun i => ?_)) j : k0_pay4 (F := Ideal) (iblk m c 3 t0_0) j = k0_pay4 (F := Ideal) (m ((c.tc : Thread nD τ).loc main_arg9)) j)
  blk_ext [iblk, V, idx3 t0_0]

/-- The reference's arguments on extended reals. -/
def args (c : Dev nD) : Cert.Spec.Args where
  x := m ((c.tc : Thread nD τ).loc main_arg0)
  kn := m ((c.tc : Thread nD τ).loc main_arg1)
  vn := m ((c.tc : Thread nD τ).loc main_arg2)
  pk := m ((c.tc : Thread nD τ).loc main_arg3)
  ks := m ((c.tc : Thread nD τ).loc main_arg4)
  pv := m ((c.tc : Thread nD τ).loc main_arg5)
  vs := m ((c.tc : Thread nD τ).loc main_arg6)
  tk := m ((c.tc : Thread nD τ).loc main_arg7)
  ts := m ((c.tc : Thread nD τ).loc main_arg8)
  tv := m ((c.tc : Thread nD τ).loc main_arg9)
  us := m ((c.tc : Thread nD τ).loc main_arg10)
  len := m ((c.tc : Thread nD τ).loc main_arg11)

/-- The arguments after the cast of the caches are the reference's. -/
theorem args_eq (c : Dev nD) : argsR (exitV m c) = args m c := by
  unfold argsR args
  rw [exit_main_v0_0, exit_main_v0_1, exit_main_v0_2, exit_main_v0_3, reg0, reg1, reg2, reg3, exit_main_arg0, exit_main_arg1,
    exit_main_arg2, exit_main_arg4, exit_main_arg6, exit_main_arg8, exit_main_arg10, exit_main_arg11]

/-- The result array of the reference, at coordinates. -/
def res (A : Cert.Spec.Args) (b : Fin 8) (j : Fin 2048) : EReal :=
  Cert.Spec.out A ⟨j.val / 1024, by omega⟩ b ⟨j.val / 128 % 8, by omega⟩ ⟨j.val % 128, by omega⟩

/-- The result array of the reference is the attention of its arguments. -/
theorem run_value (ρ : Dev nD → PrngReg) :
    θ_run defs (onTc (τ := τ) (main (F := Ideal))) ⟨m, fun _ => 0, ρ⟩ fun r => ∀ c : Dev nD,
      (∀ b j, (r.2.mem ((c.tc : Thread nD τ).loc main_v173) : S8x2048.Idx → EReal) (ix2 b j) = res (args m c) b j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ⟨fun b j => ?_, (h c).2⟩) (run m ρ)
  rw [(h c).1, ← args_eq]
  exact (last_apply (mid (exitV m c) (exitV m c (Proc.devRef .tc main_v0_1)) (exitV m c (Proc.devRef .tc main_v0_3)) (exitV m c (Proc.devRef .tc main_arg2))) b j).trans (mid_apply (exitV m c) _ _ _ _)

end Cert.ReferenceIdeal.Value

end
-- ==== Proof.Value.Equal.lean ====
module

public import proofs.«01_k».proof.Defs
public import proofs.«01_k».proof.Proof.Value.Run
public import proofs.«01_k».proof.Proof.Value.RefRun

/-!
# The kernel's result is the reference's

Both runs end with the attention `res` of their arguments, so on equal arguments the results are equal.
-/

@[expose] public section

noncomputable section

namespace Cert.Proof

open Idealize.ShloMosaic Idealize.SL.Sem

local instance : Cert.KernelIdeal.Facts := Cert.KernelIdeal.Gen.facts
local instance : Cert.ReferenceIdeal.Facts := Cert.ReferenceIdeal.Gen.facts

/-- From memories with equal arguments the kernel and the reference, on extended reals, both run, end with
    equal results and leave their arguments unchanged. -/
theorem equal : Cert.algebraic_KernelIdeal_ReferenceIdeal := by
  intro m g m' g' _ h
  refine ⟨_, Cert.KernelIdeal.Value.run_value m g, (θ_run _ _ _).mono (fun r hr c => ⟨?_, (hr c).2⟩)
    (Cert.ReferenceIdeal.Value.run_value m' g')⟩
  obtain ⟨h0, h1, h2, h3, h4, h5, h6, h7, h8, h9, h10, h11⟩ := h c
  have e : Cert.ReferenceIdeal.Value.args m' c = Cert.KernelIdeal.Value.args m c := by
    unfold Cert.ReferenceIdeal.Value.args Cert.KernelIdeal.Value.args
    congr 1
  have hv := (hr c).1
  rw [e] at hv
  funext i
  exact (congrArg _ (eq_ix2 i)).trans (hv (i 0) (i 1))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Bits.Frame
public import proofs.«01_k».proof.Proof.Ideal.Frame
public import proofs.«01_k».proof.Proof.Value.Equal
public import Idealize.ShloMosaic.Adequacy
public import Idealize.ShloMosaic.Init

@[expose] public section

noncomputable section

namespace Cert.Proof

open Idealize.ShloMosaic Idealize.SL.Sem Cert.Kernel

/-- The three programs run to completion with every semaphore at zero and their arguments unchanged, the kernel's named
    constant is the real number it stands for, and on extended reals the kernel's result is the reference's. -/
theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  fun m ρ _ => Cert.ReferenceIdeal.Gen.frame m ρ,
  IdealRules.named_const.statement Cert.KernelIdeal.κ "scale2" .f32 0x3E0293EE#32 (((11863283 / 134217728) * (Real.log 2)⁻¹ : ℝ) : EReal) rfl,
  equal⟩

end Cert.Proof

end
